-- ==== Defs.lean ====
def Pre_Kernel [hPre_pi_0123_Kernel : Cert.Pre_pi_0123_Kernel.Facts] (m : (ℓ : Loc Cert.Kernel.nD Cert.Kernel.τ Cert.Kernel.sig) → Buf (Elt Bits) ℓ) : Prop :=
  ∀ c : Dev Cert.Kernel.nD,
    (Cert.Pre_pi_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0132_Kernel [hPre_pi_0132_Kernel : Cert.Pre_pi_0132_Kernel.Facts] (m : (ℓ : Loc Cert.Kernel.nD Cert.Kernel.τ Cert.Kernel.sig) → Buf (Elt Bits) ℓ) : Prop :=
  ∀ c : Dev Cert.Kernel.nD,
    (Cert.Pre_pi_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0213_Kernel [hPre_pi_0213_Kernel : Cert.Pre_pi_0213_Kernel.Facts] (m : (ℓ : Loc Cert.Kernel.nD Cert.Kernel.τ Cert.Kernel.sig) → Buf (Elt Bits) ℓ) : Prop :=
  ∀ c : Dev Cert.Kernel.nD,
    (Cert.Pre_pi_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0231_Kernel [hPre_pi_0231_Kernel : Cert.Pre_pi_0231_Kernel.Facts] (m : (ℓ : Loc Cert.Kernel.nD Cert.Kernel.τ Cert.Kernel.sig) → Buf (Elt Bits) ℓ) : Prop :=
  ∀ c : Dev Cert.Kernel.nD,
    (Cert.Pre_pi_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0312_Kernel [hPre_pi_0312_Kernel : Cert.Pre_pi_0312_Kernel.Facts] (m : (ℓ : Loc Cert.Kernel.nD Cert.Kernel.τ Cert.Kernel.sig) → Buf (Elt Bits) ℓ) : Prop :=
  ∀ c : Dev Cert.Kernel.nD,
    (Cert.Pre_pi_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0321_Kernel [hPre_pi_0321_Kernel : Cert.Pre_pi_0321_Kernel.Facts] (m : (ℓ : Loc Cert.Kernel.nD Cert.Kernel.τ Cert.Kernel.sig) → Buf (Elt Bits) ℓ) : Prop :=
  ∀ c : Dev Cert.Kernel.nD,
    (Cert.Pre_pi_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1023_Kernel [hPre_pi_1023_Kernel : Cert.Pre_pi_1023_Kernel.Facts] (m : (ℓ : Loc Cert.Kernel.nD Cert.Kernel.τ Cert.Kernel.sig) → Buf (Elt Bits) ℓ) : Prop :=
  ∀ c : Dev Cert.Kernel.nD,
    (Cert.Pre_pi_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1032_Kernel [hPre_pi_1032_Kernel : Cert.Pre_pi_1032_Kernel.Facts] (m : (ℓ : Loc Cert.Kernel.nD Cert.Kernel.τ Cert.Kernel.sig) → Buf (Elt Bits) ℓ) : Prop :=
  ∀ c : Dev Cert.Kernel.nD,
    (Cert.Pre_pi_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1203_Kernel [hPre_pi_1203_Kernel : Cert.Pre_pi_1203_Kernel.Facts] (m : (ℓ : Loc Cert.Kernel.nD Cert.Kernel.τ Cert.Kernel.sig) → Buf (Elt Bits) ℓ) : Prop :=
  ∀ c : Dev Cert.Kernel.nD,
    (Cert.Pre_pi_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1230_Kernel [hPre_pi_1230_Kernel : Cert.Pre_pi_1230_Kernel.Facts] (m : (ℓ : Loc Cert.Kernel.nD Cert.Kernel.τ Cert.Kernel.sig) → Buf (Elt Bits) ℓ) : Prop :=
  ∀ c : Dev Cert.Kernel.nD,
    (Cert.Pre_pi_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1302_Kernel [hPre_pi_1302_Kernel : Cert.Pre_pi_1302_Kernel.Facts] (m : (ℓ : Loc Cert.Kernel.nD Cert.Kernel.τ Cert.Kernel.sig) → Buf (Elt Bits) ℓ) : Prop :=
  ∀ c : Dev Cert.Kernel.nD,
    (Cert.Pre_pi_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1320_Kernel [hPre_pi_1320_Kernel : Cert.Pre_pi_1320_Kernel.Facts] (m : (ℓ : Loc Cert.Kernel.nD Cert.Kernel.τ Cert.Kernel.sig) → Buf (Elt Bits) ℓ) : Prop :=
  ∀ c : Dev Cert.Kernel.nD,
    (Cert.Pre_pi_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2013_Kernel [hPre_pi_2013_Kernel : Cert.Pre_pi_2013_Kernel.Facts] (m : (ℓ : Loc Cert.Kernel.nD Cert.Kernel.τ Cert.Kernel.sig) → Buf (Elt Bits) ℓ) : Prop :=
  ∀ c : Dev Cert.Kernel.nD,
    (Cert.Pre_pi_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2031_Kernel [hPre_pi_2031_Kernel : Cert.Pre_pi_2031_Kernel.Facts] (m : (ℓ : Loc Cert.Kernel.nD Cert.Kernel.τ Cert.Kernel.sig) → Buf (Elt Bits) ℓ) : Prop :=
  ∀ c : Dev Cert.Kernel.nD,
    (Cert.Pre_pi_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2103_Kernel [hPre_pi_2103_Kernel : Cert.Pre_pi_2103_Kernel.Facts] (m : (ℓ : Loc Cert.Kernel.nD Cert.Kernel.τ Cert.Kernel.sig) → Buf (Elt Bits) ℓ) : Prop :=
  ∀ c : Dev Cert.Kernel.nD,
    (Cert.Pre_pi_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2130_Kernel [hPre_pi_2130_Kernel : Cert.Pre_pi_2130_Kernel.Facts] (m : (ℓ : Loc Cert.Kernel.nD Cert.Kernel.τ Cert.Kernel.sig) → Buf (Elt Bits) ℓ) : Prop :=
  ∀ c : Dev Cert.Kernel.nD,
    (Cert.Pre_pi_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2301_Kernel [hPre_pi_2301_Kernel : Cert.Pre_pi_2301_Kernel.Facts] (m : (ℓ : Loc Cert.Kernel.nD Cert.Kernel.τ Cert.Kernel.sig) → Buf (Elt Bits) ℓ) : Prop :=
  ∀ c : Dev Cert.Kernel.nD,
    (Cert.Pre_pi_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2310_Kernel [hPre_pi_2310_Kernel : Cert.Pre_pi_2310_Kernel.Facts] (m : (ℓ : Loc Cert.Kernel.nD Cert.Kernel.τ Cert.Kernel.sig) → Buf (Elt Bits) ℓ) : Prop :=
  ∀ c : Dev Cert.Kernel.nD,
    (Cert.Pre_pi_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3012_Kernel [hPre_pi_3012_Kernel : Cert.Pre_pi_3012_Kernel.Facts] (m : (ℓ : Loc Cert.Kernel.nD Cert.Kernel.τ Cert.Kernel.sig) → Buf (Elt Bits) ℓ) : Prop :=
  ∀ c : Dev Cert.Kernel.nD,
    (Cert.Pre_pi_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3021_Kernel [hPre_pi_3021_Kernel : Cert.Pre_pi_3021_Kernel.Facts] (m : (ℓ : Loc Cert.Kernel.nD Cert.Kernel.τ Cert.Kernel.sig) → Buf (Elt Bits) ℓ) : Prop :=
  ∀ c : Dev Cert.Kernel.nD,
    (Cert.Pre_pi_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3102_Kernel [hPre_pi_3102_Kernel : Cert.Pre_pi_3102_Kernel.Facts] (m : (ℓ : Loc Cert.Kernel.nD Cert.Kernel.τ Cert.Kernel.sig) → Buf (Elt Bits) ℓ) : Prop :=
  ∀ c : Dev Cert.Kernel.nD,
    (Cert.Pre_pi_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3120_Kernel [hPre_pi_3120_Kernel : Cert.Pre_pi_3120_Kernel.Facts] (m : (ℓ : Loc Cert.Kernel.nD Cert.Kernel.τ Cert.Kernel.sig) → Buf (Elt Bits) ℓ) : Prop :=
  ∀ c : Dev Cert.Kernel.nD,
    (Cert.Pre_pi_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3201_Kernel [hPre_pi_3201_Kernel : Cert.Pre_pi_3201_Kernel.Facts] (m : (ℓ : Loc Cert.Kernel.nD Cert.Kernel.τ Cert.Kernel.sig) → Buf (Elt Bits) ℓ) : Prop :=
  ∀ c : Dev Cert.Kernel.nD,
    (Cert.Pre_pi_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3210_Kernel [hPre_pi_3210_Kernel : Cert.Pre_pi_3210_Kernel.Facts] (m : (ℓ : Loc Cert.Kernel.nD Cert.Kernel.τ Cert.Kernel.sig) → Buf (Elt Bits) ℓ) : Prop :=
  ∀ c : Dev Cert.Kernel.nD,
    (Cert.Pre_pi_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_0123_Kernel : Cert.Pre_pi_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0132_Kernel [hPre_pi_0132_Kernel : Cert.Pre_pi_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0213_Kernel [hPre_pi_0213_Kernel : Cert.Pre_pi_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0231_Kernel [hPre_pi_0231_Kernel : Cert.Pre_pi_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0312_Kernel [hPre_pi_0312_Kernel : Cert.Pre_pi_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0321_Kernel [hPre_pi_0321_Kernel : Cert.Pre_pi_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1023_Kernel [hPre_pi_1023_Kernel : Cert.Pre_pi_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1032_Kernel [hPre_pi_1032_Kernel : Cert.Pre_pi_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1203_Kernel [hPre_pi_1203_Kernel : Cert.Pre_pi_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1230_Kernel [hPre_pi_1230_Kernel : Cert.Pre_pi_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1302_Kernel [hPre_pi_1302_Kernel : Cert.Pre_pi_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1320_Kernel [hPre_pi_1320_Kernel : Cert.Pre_pi_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2013_Kernel [hPre_pi_2013_Kernel : Cert.Pre_pi_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2031_Kernel [hPre_pi_2031_Kernel : Cert.Pre_pi_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2103_Kernel [hPre_pi_2103_Kernel : Cert.Pre_pi_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2130_Kernel [hPre_pi_2130_Kernel : Cert.Pre_pi_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2301_Kernel [hPre_pi_2301_Kernel : Cert.Pre_pi_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2310_Kernel [hPre_pi_2310_Kernel : Cert.Pre_pi_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3012_Kernel [hPre_pi_3012_Kernel : Cert.Pre_pi_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3021_Kernel [hPre_pi_3021_Kernel : Cert.Pre_pi_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3102_Kernel [hPre_pi_3102_Kernel : Cert.Pre_pi_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3120_Kernel [hPre_pi_3120_Kernel : Cert.Pre_pi_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3201_Kernel [hPre_pi_3201_Kernel : Cert.Pre_pi_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3210_Kernel [hPre_pi_3210_Kernel : Cert.Pre_pi_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_0123_ReferenceIdeal [hPre_pi_0123_ReferenceIdeal : Cert.Pre_pi_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0132_ReferenceIdeal [hPre_pi_0132_ReferenceIdeal : Cert.Pre_pi_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0213_ReferenceIdeal [hPre_pi_0213_ReferenceIdeal : Cert.Pre_pi_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0231_ReferenceIdeal [hPre_pi_0231_ReferenceIdeal : Cert.Pre_pi_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0312_ReferenceIdeal [hPre_pi_0312_ReferenceIdeal : Cert.Pre_pi_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0321_ReferenceIdeal [hPre_pi_0321_ReferenceIdeal : Cert.Pre_pi_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1023_ReferenceIdeal [hPre_pi_1023_ReferenceIdeal : Cert.Pre_pi_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1032_ReferenceIdeal [hPre_pi_1032_ReferenceIdeal : Cert.Pre_pi_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1203_ReferenceIdeal [hPre_pi_1203_ReferenceIdeal : Cert.Pre_pi_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1230_ReferenceIdeal [hPre_pi_1230_ReferenceIdeal : Cert.Pre_pi_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1302_ReferenceIdeal [hPre_pi_1302_ReferenceIdeal : Cert.Pre_pi_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1320_ReferenceIdeal [hPre_pi_1320_ReferenceIdeal : Cert.Pre_pi_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2013_ReferenceIdeal [hPre_pi_2013_ReferenceIdeal : Cert.Pre_pi_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2031_ReferenceIdeal [hPre_pi_2031_ReferenceIdeal : Cert.Pre_pi_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2103_ReferenceIdeal [hPre_pi_2103_ReferenceIdeal : Cert.Pre_pi_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2130_ReferenceIdeal [hPre_pi_2130_ReferenceIdeal : Cert.Pre_pi_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2301_ReferenceIdeal [hPre_pi_2301_ReferenceIdeal : Cert.Pre_pi_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2310_ReferenceIdeal [hPre_pi_2310_ReferenceIdeal : Cert.Pre_pi_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3012_ReferenceIdeal [hPre_pi_3012_ReferenceIdeal : Cert.Pre_pi_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3021_ReferenceIdeal [hPre_pi_3021_ReferenceIdeal : Cert.Pre_pi_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3102_ReferenceIdeal [hPre_pi_3102_ReferenceIdeal : Cert.Pre_pi_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3120_ReferenceIdeal [hPre_pi_3120_ReferenceIdeal : Cert.Pre_pi_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3201_ReferenceIdeal [hPre_pi_3201_ReferenceIdeal : Cert.Pre_pi_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3210_ReferenceIdeal [hPre_pi_3210_ReferenceIdeal : Cert.Pre_pi_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_0123_Kernel : Cert.Pre_pi_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0132_Kernel [hKernel : Cert.Kernel.Facts] [hPre_pi_0132_Kernel : Cert.Pre_pi_0132_Kernel.Facts] : Prop :=
  ∀ (m : (ℓ : Loc Cert.Kernel.nD Cert.Kernel.τ Cert.Kernel.sig) → Buf (Elt Bits) ℓ) (g : Dev Cert.Kernel.nD → PrngReg), Pre_Kernel_pi_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0213_Kernel [hKernel : Cert.Kernel.Facts] [hPre_pi_0213_Kernel : Cert.Pre_pi_0213_Kernel.Facts] : Prop :=
  ∀ (m : (ℓ : Loc Cert.Kernel.nD Cert.Kernel.τ Cert.Kernel.sig) → Buf (Elt Bits) ℓ) (g : Dev Cert.Kernel.nD → PrngReg), Pre_Kernel_pi_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0231_Kernel [hKernel : Cert.Kernel.Facts] [hPre_pi_0231_Kernel : Cert.Pre_pi_0231_Kernel.Facts] : Prop :=
  ∀ (m : (ℓ : Loc Cert.Kernel.nD Cert.Kernel.τ Cert.Kernel.sig) → Buf (Elt Bits) ℓ) (g : Dev Cert.Kernel.nD → PrngReg), Pre_Kernel_pi_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0312_Kernel [hKernel : Cert.Kernel.Facts] [hPre_pi_0312_Kernel : Cert.Pre_pi_0312_Kernel.Facts] : Prop :=
  ∀ (m : (ℓ : Loc Cert.Kernel.nD Cert.Kernel.τ Cert.Kernel.sig) → Buf (Elt Bits) ℓ) (g : Dev Cert.Kernel.nD → PrngReg), Pre_Kernel_pi_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0321_Kernel [hKernel : Cert.Kernel.Facts] [hPre_pi_0321_Kernel : Cert.Pre_pi_0321_Kernel.Facts] : Prop :=
  ∀ (m : (ℓ : Loc Cert.Kernel.nD Cert.Kernel.τ Cert.Kernel.sig) → Buf (Elt Bits) ℓ) (g : Dev Cert.Kernel.nD → PrngReg), Pre_Kernel_pi_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1023_Kernel [hKernel : Cert.Kernel.Facts] [hPre_pi_1023_Kernel : Cert.Pre_pi_1023_Kernel.Facts] : Prop :=
  ∀ (m : (ℓ : Loc Cert.Kernel.nD Cert.Kernel.τ Cert.Kernel.sig) → Buf (Elt Bits) ℓ) (g : Dev Cert.Kernel.nD → PrngReg), Pre_Kernel_pi_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1032_Kernel [hKernel : Cert.Kernel.Facts] [hPre_pi_1032_Kernel : Cert.Pre_pi_1032_Kernel.Facts] : Prop :=
  ∀ (m : (ℓ : Loc Cert.Kernel.nD Cert.Kernel.τ Cert.Kernel.sig) → Buf (Elt Bits) ℓ) (g : Dev Cert.Kernel.nD → PrngReg), Pre_Kernel_pi_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1203_Kernel [hKernel : Cert.Kernel.Facts] [hPre_pi_1203_Kernel : Cert.Pre_pi_1203_Kernel.Facts] : Prop :=
  ∀ (m : (ℓ : Loc Cert.Kernel.nD Cert.Kernel.τ Cert.Kernel.sig) → Buf (Elt Bits) ℓ) (g : Dev Cert.Kernel.nD → PrngReg), Pre_Kernel_pi_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1230_Kernel [hKernel : Cert.Kernel.Facts] [hPre_pi_1230_Kernel : Cert.Pre_pi_1230_Kernel.Facts] : Prop :=
  ∀ (m : (ℓ : Loc Cert.Kernel.nD Cert.Kernel.τ Cert.Kernel.sig) → Buf (Elt Bits) ℓ) (g : Dev Cert.Kernel.nD → PrngReg), Pre_Kernel_pi_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1302_Kernel [hKernel : Cert.Kernel.Facts] [hPre_pi_1302_Kernel : Cert.Pre_pi_1302_Kernel.Facts] : Prop :=
  ∀ (m : (ℓ : Loc Cert.Kernel.nD Cert.Kernel.τ Cert.Kernel.sig) → Buf (Elt Bits) ℓ) (g : Dev Cert.Kernel.nD → PrngReg), Pre_Kernel_pi_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1320_Kernel [hKernel : Cert.Kernel.Facts] [hPre_pi_1320_Kernel : Cert.Pre_pi_1320_Kernel.Facts] : Prop :=
  ∀ (m : (ℓ : Loc Cert.Kernel.nD Cert.Kernel.τ Cert.Kernel.sig) → Buf (Elt Bits) ℓ) (g : Dev Cert.Kernel.nD → PrngReg), Pre_Kernel_pi_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2013_Kernel [hKernel : Cert.Kernel.Facts] [hPre_pi_2013_Kernel : Cert.Pre_pi_2013_Kernel.Facts] : Prop :=
  ∀ (m : (ℓ : Loc Cert.Kernel.nD Cert.Kernel.τ Cert.Kernel.sig) → Buf (Elt Bits) ℓ) (g : Dev Cert.Kernel.nD → PrngReg), Pre_Kernel_pi_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2031_Kernel [hKernel : Cert.Kernel.Facts] [hPre_pi_2031_Kernel : Cert.Pre_pi_2031_Kernel.Facts] : Prop :=
  ∀ (m : (ℓ : Loc Cert.Kernel.nD Cert.Kernel.τ Cert.Kernel.sig) → Buf (Elt Bits) ℓ) (g : Dev Cert.Kernel.nD → PrngReg), Pre_Kernel_pi_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2103_Kernel [hKernel : Cert.Kernel.Facts] [hPre_pi_2103_Kernel : Cert.Pre_pi_2103_Kernel.Facts] : Prop :=
  ∀ (m : (ℓ : Loc Cert.Kernel.nD Cert.Kernel.τ Cert.Kernel.sig) → Buf (Elt Bits) ℓ) (g : Dev Cert.Kernel.nD → PrngReg), Pre_Kernel_pi_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2130_Kernel [hKernel : Cert.Kernel.Facts] [hPre_pi_2130_Kernel : Cert.Pre_pi_2130_Kernel.Facts] : Prop :=
  ∀ (m : (ℓ : Loc Cert.Kernel.nD Cert.Kernel.τ Cert.Kernel.sig) → Buf (Elt Bits) ℓ) (g : Dev Cert.Kernel.nD → PrngReg), Pre_Kernel_pi_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2301_Kernel [hKernel : Cert.Kernel.Facts] [hPre_pi_2301_Kernel : Cert.Pre_pi_2301_Kernel.Facts] : Prop :=
  ∀ (m : (ℓ : Loc Cert.Kernel.nD Cert.Kernel.τ Cert.Kernel.sig) → Buf (Elt Bits) ℓ) (g : Dev Cert.Kernel.nD → PrngReg), Pre_Kernel_pi_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2310_Kernel [hKernel : Cert.Kernel.Facts] [hPre_pi_2310_Kernel : Cert.Pre_pi_2310_Kernel.Facts] : Prop :=
  ∀ (m : (ℓ : Loc Cert.Kernel.nD Cert.Kernel.τ Cert.Kernel.sig) → Buf (Elt Bits) ℓ) (g : Dev Cert.Kernel.nD → PrngReg), Pre_Kernel_pi_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3012_Kernel [hKernel : Cert.Kernel.Facts] [hPre_pi_3012_Kernel : Cert.Pre_pi_3012_Kernel.Facts] : Prop :=
  ∀ (m : (ℓ : Loc Cert.Kernel.nD Cert.Kernel.τ Cert.Kernel.sig) → Buf (Elt Bits) ℓ) (g : Dev Cert.Kernel.nD → PrngReg), Pre_Kernel_pi_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3021_Kernel [hKernel : Cert.Kernel.Facts] [hPre_pi_3021_Kernel : Cert.Pre_pi_3021_Kernel.Facts] : Prop :=
  ∀ (m : (ℓ : Loc Cert.Kernel.nD Cert.Kernel.τ Cert.Kernel.sig) → Buf (Elt Bits) ℓ) (g : Dev Cert.Kernel.nD → PrngReg), Pre_Kernel_pi_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3102_Kernel [hKernel : Cert.Kernel.Facts] [hPre_pi_3102_Kernel : Cert.Pre_pi_3102_Kernel.Facts] : Prop :=
  ∀ (m : (ℓ : Loc Cert.Kernel.nD Cert.Kernel.τ Cert.Kernel.sig) → Buf (Elt Bits) ℓ) (g : Dev Cert.Kernel.nD → PrngReg), Pre_Kernel_pi_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3120_Kernel [hKernel : Cert.Kernel.Facts] [hPre_pi_3120_Kernel : Cert.Pre_pi_3120_Kernel.Facts] : Prop :=
  ∀ (m : (ℓ : Loc Cert.Kernel.nD Cert.Kernel.τ Cert.Kernel.sig) → Buf (Elt Bits) ℓ) (g : Dev Cert.Kernel.nD → PrngReg), Pre_Kernel_pi_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3201_Kernel [hKernel : Cert.Kernel.Facts] [hPre_pi_3201_Kernel : Cert.Pre_pi_3201_Kernel.Facts] : Prop :=
  ∀ (m : (ℓ : Loc Cert.Kernel.nD Cert.Kernel.τ Cert.Kernel.sig) → Buf (Elt Bits) ℓ) (g : Dev Cert.Kernel.nD → PrngReg), Pre_Kernel_pi_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3210_Kernel [hKernel : Cert.Kernel.Facts] [hPre_pi_3210_Kernel : Cert.Pre_pi_3210_Kernel.Facts] : Prop :=
  ∀ (m : (ℓ : Loc Cert.Kernel.nD Cert.Kernel.τ Cert.Kernel.sig) → Buf (Elt Bits) ℓ) (g : Dev Cert.Kernel.nD → PrngReg), Pre_Kernel_pi_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0132_Kernel [hKernelIdeal : Cert.KernelIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0213_Kernel [hKernelIdeal : Cert.KernelIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0231_Kernel [hKernelIdeal : Cert.KernelIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0312_Kernel [hKernelIdeal : Cert.KernelIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0321_Kernel [hKernelIdeal : Cert.KernelIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1023_Kernel [hKernelIdeal : Cert.KernelIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1032_Kernel [hKernelIdeal : Cert.KernelIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1203_Kernel [hKernelIdeal : Cert.KernelIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1230_Kernel [hKernelIdeal : Cert.KernelIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1302_Kernel [hKernelIdeal : Cert.KernelIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1320_Kernel [hKernelIdeal : Cert.KernelIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2013_Kernel [hKernelIdeal : Cert.KernelIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2031_Kernel [hKernelIdeal : Cert.KernelIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2103_Kernel [hKernelIdeal : Cert.KernelIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2130_Kernel [hKernelIdeal : Cert.KernelIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2301_Kernel [hKernelIdeal : Cert.KernelIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2310_Kernel [hKernelIdeal : Cert.KernelIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3012_Kernel [hKernelIdeal : Cert.KernelIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3021_Kernel [hKernelIdeal : Cert.KernelIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3102_Kernel [hKernelIdeal : Cert.KernelIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3120_Kernel [hKernelIdeal : Cert.KernelIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3201_Kernel [hKernelIdeal : Cert.KernelIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3210_Kernel [hKernelIdeal : Cert.KernelIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0123_ReferenceIdeal [hReferenceIdeal : Cert.ReferenceIdeal.Facts] [hPre_pi_0123_ReferenceIdeal : Cert.Pre_pi_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0132_ReferenceIdeal [hReferenceIdeal : Cert.ReferenceIdeal.Facts] [hPre_pi_0132_ReferenceIdeal : Cert.Pre_pi_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0213_ReferenceIdeal [hReferenceIdeal : Cert.ReferenceIdeal.Facts] [hPre_pi_0213_ReferenceIdeal : Cert.Pre_pi_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0231_ReferenceIdeal [hReferenceIdeal : Cert.ReferenceIdeal.Facts] [hPre_pi_0231_ReferenceIdeal : Cert.Pre_pi_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0312_ReferenceIdeal [hReferenceIdeal : Cert.ReferenceIdeal.Facts] [hPre_pi_0312_ReferenceIdeal : Cert.Pre_pi_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0321_ReferenceIdeal [hReferenceIdeal : Cert.ReferenceIdeal.Facts] [hPre_pi_0321_ReferenceIdeal : Cert.Pre_pi_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1023_ReferenceIdeal [hReferenceIdeal : Cert.ReferenceIdeal.Facts] [hPre_pi_1023_ReferenceIdeal : Cert.Pre_pi_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1032_ReferenceIdeal [hReferenceIdeal : Cert.ReferenceIdeal.Facts] [hPre_pi_1032_ReferenceIdeal : Cert.Pre_pi_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1203_ReferenceIdeal [hReferenceIdeal : Cert.ReferenceIdeal.Facts] [hPre_pi_1203_ReferenceIdeal : Cert.Pre_pi_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1230_ReferenceIdeal [hReferenceIdeal : Cert.ReferenceIdeal.Facts] [hPre_pi_1230_ReferenceIdeal : Cert.Pre_pi_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1302_ReferenceIdeal [hReferenceIdeal : Cert.ReferenceIdeal.Facts] [hPre_pi_1302_ReferenceIdeal : Cert.Pre_pi_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1320_ReferenceIdeal [hReferenceIdeal : Cert.ReferenceIdeal.Facts] [hPre_pi_1320_ReferenceIdeal : Cert.Pre_pi_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2013_ReferenceIdeal [hReferenceIdeal : Cert.ReferenceIdeal.Facts] [hPre_pi_2013_ReferenceIdeal : Cert.Pre_pi_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2031_ReferenceIdeal [hReferenceIdeal : Cert.ReferenceIdeal.Facts] [hPre_pi_2031_ReferenceIdeal : Cert.Pre_pi_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2103_ReferenceIdeal [hReferenceIdeal : Cert.ReferenceIdeal.Facts] [hPre_pi_2103_ReferenceIdeal : Cert.Pre_pi_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2130_ReferenceIdeal [hReferenceIdeal : Cert.ReferenceIdeal.Facts] [hPre_pi_2130_ReferenceIdeal : Cert.Pre_pi_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2301_ReferenceIdeal [hReferenceIdeal : Cert.ReferenceIdeal.Facts] [hPre_pi_2301_ReferenceIdeal : Cert.Pre_pi_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2310_ReferenceIdeal [hReferenceIdeal : Cert.ReferenceIdeal.Facts] [hPre_pi_2310_ReferenceIdeal : Cert.Pre_pi_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3012_ReferenceIdeal [hReferenceIdeal : Cert.ReferenceIdeal.Facts] [hPre_pi_3012_ReferenceIdeal : Cert.Pre_pi_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3021_ReferenceIdeal [hReferenceIdeal : Cert.ReferenceIdeal.Facts] [hPre_pi_3021_ReferenceIdeal : Cert.Pre_pi_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3102_ReferenceIdeal [hReferenceIdeal : Cert.ReferenceIdeal.Facts] [hPre_pi_3102_ReferenceIdeal : Cert.Pre_pi_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3120_ReferenceIdeal [hReferenceIdeal : Cert.ReferenceIdeal.Facts] [hPre_pi_3120_ReferenceIdeal : Cert.Pre_pi_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3201_ReferenceIdeal [hReferenceIdeal : Cert.ReferenceIdeal.Facts] [hPre_pi_3201_ReferenceIdeal : Cert.Pre_pi_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3210_ReferenceIdeal [hReferenceIdeal : Cert.ReferenceIdeal.Facts] [hPre_pi_3210_ReferenceIdeal : Cert.Pre_pi_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0132_Kernel [hKernelIdeal : Cert.KernelIdeal.Facts] [hReferenceIdeal : Cert.ReferenceIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0132_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0213_Kernel [hKernelIdeal : Cert.KernelIdeal.Facts] [hReferenceIdeal : Cert.ReferenceIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0213_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0231_Kernel [hKernelIdeal : Cert.KernelIdeal.Facts] [hReferenceIdeal : Cert.ReferenceIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0231_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0312_Kernel [hKernelIdeal : Cert.KernelIdeal.Facts] [hReferenceIdeal : Cert.ReferenceIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0312_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0321_Kernel [hKernelIdeal : Cert.KernelIdeal.Facts] [hReferenceIdeal : Cert.ReferenceIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0321_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1023_Kernel [hKernelIdeal : Cert.KernelIdeal.Facts] [hReferenceIdeal : Cert.ReferenceIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1023_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1032_Kernel [hKernelIdeal : Cert.KernelIdeal.Facts] [hReferenceIdeal : Cert.ReferenceIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1032_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1203_Kernel [hKernelIdeal : Cert.KernelIdeal.Facts] [hReferenceIdeal : Cert.ReferenceIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1203_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1230_Kernel [hKernelIdeal : Cert.KernelIdeal.Facts] [hReferenceIdeal : Cert.ReferenceIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1230_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1302_Kernel [hKernelIdeal : Cert.KernelIdeal.Facts] [hReferenceIdeal : Cert.ReferenceIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1302_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1320_Kernel [hKernelIdeal : Cert.KernelIdeal.Facts] [hReferenceIdeal : Cert.ReferenceIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1320_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2013_Kernel [hKernelIdeal : Cert.KernelIdeal.Facts] [hReferenceIdeal : Cert.ReferenceIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2013_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2031_Kernel [hKernelIdeal : Cert.KernelIdeal.Facts] [hReferenceIdeal : Cert.ReferenceIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2031_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2103_Kernel [hKernelIdeal : Cert.KernelIdeal.Facts] [hReferenceIdeal : Cert.ReferenceIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2103_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2130_Kernel [hKernelIdeal : Cert.KernelIdeal.Facts] [hReferenceIdeal : Cert.ReferenceIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2130_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2301_Kernel [hKernelIdeal : Cert.KernelIdeal.Facts] [hReferenceIdeal : Cert.ReferenceIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2301_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2310_Kernel [hKernelIdeal : Cert.KernelIdeal.Facts] [hReferenceIdeal : Cert.ReferenceIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2310_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3012_Kernel [hKernelIdeal : Cert.KernelIdeal.Facts] [hReferenceIdeal : Cert.ReferenceIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3012_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3021_Kernel [hKernelIdeal : Cert.KernelIdeal.Facts] [hReferenceIdeal : Cert.ReferenceIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3021_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3102_Kernel [hKernelIdeal : Cert.KernelIdeal.Facts] [hReferenceIdeal : Cert.ReferenceIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3102_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3120_Kernel [hKernelIdeal : Cert.KernelIdeal.Facts] [hReferenceIdeal : Cert.ReferenceIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3120_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3201_Kernel [hKernelIdeal : Cert.KernelIdeal.Facts] [hReferenceIdeal : Cert.ReferenceIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3201_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3210_Kernel [hKernelIdeal : Cert.KernelIdeal.Facts] [hReferenceIdeal : Cert.ReferenceIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3210_Kernel m →
    (∀ c : Dev Cert.KernelIdeal.nD,
      m ((c.tc : Thread Cert.KernelIdeal.nD Cert.KernelIdeal.τ).loc Cert.KernelIdeal.main_arg0) = Layout.block ⟨3, ![1, 2048, 1024]⟩ ⟨3, ![4, 2048, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 2048, 1024]⟩ ⟨3, ![4, 2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_0123_Kernel : Cert.Pre_pi_0123_Kernel.Facts) (hPre_pi_0132_Kernel : Cert.Pre_pi_0132_Kernel.Facts) (hPre_pi_0213_Kernel : Cert.Pre_pi_0213_Kernel.Facts) (hPre_pi_0231_Kernel : Cert.Pre_pi_0231_Kernel.Facts) (hPre_pi_0312_Kernel : Cert.Pre_pi_0312_Kernel.Facts) (hPre_pi_0321_Kernel : Cert.Pre_pi_0321_Kernel.Facts) (hPre_pi_1023_Kernel : Cert.Pre_pi_1023_Kernel.Facts) (hPre_pi_1032_Kernel : Cert.Pre_pi_1032_Kernel.Facts) (hPre_pi_1203_Kernel : Cert.Pre_pi_1203_Kernel.Facts) (hPre_pi_1230_Kernel : Cert.Pre_pi_1230_Kernel.Facts) (hPre_pi_1302_Kernel : Cert.Pre_pi_1302_Kernel.Facts) (hPre_pi_1320_Kernel : Cert.Pre_pi_1320_Kernel.Facts) (hPre_pi_2013_Kernel : Cert.Pre_pi_2013_Kernel.Facts) (hPre_pi_2031_Kernel : Cert.Pre_pi_2031_Kernel.Facts) (hPre_pi_2103_Kernel : Cert.Pre_pi_2103_Kernel.Facts) (hPre_pi_2130_Kernel : Cert.Pre_pi_2130_Kernel.Facts) (hPre_pi_2301_Kernel : Cert.Pre_pi_2301_Kernel.Facts) (hPre_pi_2310_Kernel : Cert.Pre_pi_2310_Kernel.Facts) (hPre_pi_3012_Kernel : Cert.Pre_pi_3012_Kernel.Facts) (hPre_pi_3021_Kernel : Cert.Pre_pi_3021_Kernel.Facts) (hPre_pi_3102_Kernel : Cert.Pre_pi_3102_Kernel.Facts) (hPre_pi_3120_Kernel : Cert.Pre_pi_3120_Kernel.Facts) (hPre_pi_3201_Kernel : Cert.Pre_pi_3201_Kernel.Facts) (hPre_pi_3210_Kernel : Cert.Pre_pi_3210_Kernel.Facts) (hPre_pi_0123_ReferenceIdeal : Cert.Pre_pi_0123_ReferenceIdeal.Facts) (hPre_pi_0132_ReferenceIdeal : Cert.Pre_pi_0132_ReferenceIdeal.Facts) (hPre_pi_0213_ReferenceIdeal : Cert.Pre_pi_0213_ReferenceIdeal.Facts) (hPre_pi_0231_ReferenceIdeal : Cert.Pre_pi_0231_ReferenceIdeal.Facts) (hPre_pi_0312_ReferenceIdeal : Cert.Pre_pi_0312_ReferenceIdeal.Facts) (hPre_pi_0321_ReferenceIdeal : Cert.Pre_pi_0321_ReferenceIdeal.Facts) (hPre_pi_1023_ReferenceIdeal : Cert.Pre_pi_1023_ReferenceIdeal.Facts) (hPre_pi_1032_ReferenceIdeal : Cert.Pre_pi_1032_ReferenceIdeal.Facts) (hPre_pi_1203_ReferenceIdeal : Cert.Pre_pi_1203_ReferenceIdeal.Facts) (hPre_pi_1230_ReferenceIdeal : Cert.Pre_pi_1230_ReferenceIdeal.Facts) (hPre_pi_1302_ReferenceIdeal : Cert.Pre_pi_1302_ReferenceIdeal.Facts) (hPre_pi_1320_ReferenceIdeal : Cert.Pre_pi_1320_ReferenceIdeal.Facts) (hPre_pi_2013_ReferenceIdeal : Cert.Pre_pi_2013_ReferenceIdeal.Facts) (hPre_pi_2031_ReferenceIdeal : Cert.Pre_pi_2031_ReferenceIdeal.Facts) (hPre_pi_2103_ReferenceIdeal : Cert.Pre_pi_2103_ReferenceIdeal.Facts) (hPre_pi_2130_ReferenceIdeal : Cert.Pre_pi_2130_ReferenceIdeal.Facts) (hPre_pi_2301_ReferenceIdeal : Cert.Pre_pi_2301_ReferenceIdeal.Facts) (hPre_pi_2310_ReferenceIdeal : Cert.Pre_pi_2310_ReferenceIdeal.Facts) (hPre_pi_3012_ReferenceIdeal : Cert.Pre_pi_3012_ReferenceIdeal.Facts) (hPre_pi_3021_ReferenceIdeal : Cert.Pre_pi_3021_ReferenceIdeal.Facts) (hPre_pi_3102_ReferenceIdeal : Cert.Pre_pi_3102_ReferenceIdeal.Facts) (hPre_pi_3120_ReferenceIdeal : Cert.Pre_pi_3120_ReferenceIdeal.Facts) (hPre_pi_3201_ReferenceIdeal : Cert.Pre_pi_3201_ReferenceIdeal.Facts) (hPre_pi_3210_ReferenceIdeal : Cert.Pre_pi_3210_ReferenceIdeal.Facts),
    quiescent_Kernel (hKernel := hKernel) (hPre_pi_0123_Kernel := hPre_pi_0123_Kernel)
    ∧ quiescent_Kernel_pre_pi_0132_Kernel (hKernel := hKernel) (hPre_pi_0132_Kernel := hPre_pi_0132_Kernel)
    ∧ quiescent_Kernel_pre_pi_0213_Kernel (hKernel := hKernel) (hPre_pi_0213_Kernel := hPre_pi_0213_Kernel)
    ∧ quiescent_Kernel_pre_pi_0231_Kernel (hKernel := hKernel) (hPre_pi_0231_Kernel := hPre_pi_0231_Kernel)
    ∧ quiescent_Kernel_pre_pi_0312_Kernel (hKernel := hKernel) (hPre_pi_0312_Kernel := hPre_pi_0312_Kernel)
    ∧ quiescent_Kernel_pre_pi_0321_Kernel (hKernel := hKernel) (hPre_pi_0321_Kernel := hPre_pi_0321_Kernel)
    ∧ quiescent_Kernel_pre_pi_1023_Kernel (hKernel := hKernel) (hPre_pi_1023_Kernel := hPre_pi_1023_Kernel)
    ∧ quiescent_Kernel_pre_pi_1032_Kernel (hKernel := hKernel) (hPre_pi_1032_Kernel := hPre_pi_1032_Kernel)
    ∧ quiescent_Kernel_pre_pi_1203_Kernel (hKernel := hKernel) (hPre_pi_1203_Kernel := hPre_pi_1203_Kernel)
    ∧ quiescent_Kernel_pre_pi_1230_Kernel (hKernel := hKernel) (hPre_pi_1230_Kernel := hPre_pi_1230_Kernel)
    ∧ quiescent_Kernel_pre_pi_1302_Kernel (hKernel := hKernel) (hPre_pi_1302_Kernel := hPre_pi_1302_Kernel)
    ∧ quiescent_Kernel_pre_pi_1320_Kernel (hKernel := hKernel) (hPre_pi_1320_Kernel := hPre_pi_1320_Kernel)
    ∧ quiescent_Kernel_pre_pi_2013_Kernel (hKernel := hKernel) (hPre_pi_2013_Kernel := hPre_pi_2013_Kernel)
    ∧ quiescent_Kernel_pre_pi_2031_Kernel (hKernel := hKernel) (hPre_pi_2031_Kernel := hPre_pi_2031_Kernel)
    ∧ quiescent_Kernel_pre_pi_2103_Kernel (hKernel := hKernel) (hPre_pi_2103_Kernel := hPre_pi_2103_Kernel)
    ∧ quiescent_Kernel_pre_pi_2130_Kernel (hKernel := hKernel) (hPre_pi_2130_Kernel := hPre_pi_2130_Kernel)
    ∧ quiescent_Kernel_pre_pi_2301_Kernel (hKernel := hKernel) (hPre_pi_2301_Kernel := hPre_pi_2301_Kernel)
    ∧ quiescent_Kernel_pre_pi_2310_Kernel (hKernel := hKernel) (hPre_pi_2310_Kernel := hPre_pi_2310_Kernel)
    ∧ quiescent_Kernel_pre_pi_3012_Kernel (hKernel := hKernel) (hPre_pi_3012_Kernel := hPre_pi_3012_Kernel)
    ∧ quiescent_Kernel_pre_pi_3021_Kernel (hKernel := hKernel) (hPre_pi_3021_Kernel := hPre_pi_3021_Kernel)
    ∧ quiescent_Kernel_pre_pi_3102_Kernel (hKernel := hKernel) (hPre_pi_3102_Kernel := hPre_pi_3102_Kernel)
    ∧ quiescent_Kernel_pre_pi_3120_Kernel (hKernel := hKernel) (hPre_pi_3120_Kernel := hPre_pi_3120_Kernel)
    ∧ quiescent_Kernel_pre_pi_3201_Kernel (hKernel := hKernel) (hPre_pi_3201_Kernel := hPre_pi_3201_Kernel)
    ∧ quiescent_Kernel_pre_pi_3210_Kernel (hKernel := hKernel) (hPre_pi_3210_Kernel := hPre_pi_3210_Kernel)
    ∧ quiescent_KernelIdeal (hKernelIdeal := hKernelIdeal) (hPre_pi_0123_Kernel := hPre_pi_0123_Kernel)
    ∧ quiescent_KernelIdeal_pre_pi_0132_Kernel (hKernelIdeal := hKernelIdeal) (hPre_pi_0132_Kernel := hPre_pi_0132_Kernel)
    ∧ quiescent_KernelIdeal_pre_pi_0213_Kernel (hKernelIdeal := hKernelIdeal) (hPre_pi_0213_Kernel := hPre_pi_0213_Kernel)
    ∧ quiescent_KernelIdeal_pre_pi_0231_Kernel (hKernelIdeal := hKernelIdeal) (hPre_pi_0231_Kernel := hPre_pi_0231_Kernel)
    ∧ quiescent_KernelIdeal_pre_pi_0312_Kernel (hKernelIdeal := hKernelIdeal) (hPre_pi_0312_Kernel := hPre_pi_0312_Kernel)
    ∧ quiescent_KernelIdeal_pre_pi_0321_Kernel (hKernelIdeal := hKernelIdeal) (hPre_pi_0321_Kernel := hPre_pi_0321_Kernel)
    ∧ quiescent_KernelIdeal_pre_pi_1023_Kernel (hKernelIdeal := hKernelIdeal) (hPre_pi_1023_Kernel := hPre_pi_1023_Kernel)
    ∧ quiescent_KernelIdeal_pre_pi_1032_Kernel (hKernelIdeal := hKernelIdeal) (hPre_pi_1032_Kernel := hPre_pi_1032_Kernel)
    ∧ quiescent_KernelIdeal_pre_pi_1203_Kernel (hKernelIdeal := hKernelIdeal) (hPre_pi_1203_Kernel := hPre_pi_1203_Kernel)
    ∧ quiescent_KernelIdeal_pre_pi_1230_Kernel (hKernelIdeal := hKernelIdeal) (hPre_pi_1230_Kernel := hPre_pi_1230_Kernel)
    ∧ quiescent_KernelIdeal_pre_pi_1302_Kernel (hKernelIdeal := hKernelIdeal) (hPre_pi_1302_Kernel := hPre_pi_1302_Kernel)
    ∧ quiescent_KernelIdeal_pre_pi_1320_Kernel (hKernelIdeal := hKernelIdeal) (hPre_pi_1320_Kernel := hPre_pi_1320_Kernel)
    ∧ quiescent_KernelIdeal_pre_pi_2013_Kernel (hKernelIdeal := hKernelIdeal) (hPre_pi_2013_Kernel := hPre_pi_2013_Kernel)
    ∧ quiescent_KernelIdeal_pre_pi_2031_Kernel (hKernelIdeal := hKernelIdeal) (hPre_pi_2031_Kernel := hPre_pi_2031_Kernel)
    ∧ quiescent_KernelIdeal_pre_pi_2103_Kernel (hKernelIdeal := hKernelIdeal) (hPre_pi_2103_Kernel := hPre_pi_2103_Kernel)
    ∧ quiescent_KernelIdeal_pre_pi_2130_Kernel (hKernelIdeal := hKernelIdeal) (hPre_pi_2130_Kernel := hPre_pi_2130_Kernel)
    ∧ quiescent_KernelIdeal_pre_pi_2301_Kernel (hKernelIdeal := hKernelIdeal) (hPre_pi_2301_Kernel := hPre_pi_2301_Kernel)
    ∧ quiescent_KernelIdeal_pre_pi_2310_Kernel (hKernelIdeal := hKernelIdeal) (hPre_pi_2310_Kernel := hPre_pi_2310_Kernel)
    ∧ quiescent_KernelIdeal_pre_pi_3012_Kernel (hKernelIdeal := hKernelIdeal) (hPre_pi_3012_Kernel := hPre_pi_3012_Kernel)
    ∧ quiescent_KernelIdeal_pre_pi_3021_Kernel (hKernelIdeal := hKernelIdeal) (hPre_pi_3021_Kernel := hPre_pi_3021_Kernel)
    ∧ quiescent_KernelIdeal_pre_pi_3102_Kernel (hKernelIdeal := hKernelIdeal) (hPre_pi_3102_Kernel := hPre_pi_3102_Kernel)
    ∧ quiescent_KernelIdeal_pre_pi_3120_Kernel (hKernelIdeal := hKernelIdeal) (hPre_pi_3120_Kernel := hPre_pi_3120_Kernel)
    ∧ quiescent_KernelIdeal_pre_pi_3201_Kernel (hKernelIdeal := hKernelIdeal) (hPre_pi_3201_Kernel := hPre_pi_3201_Kernel)
    ∧ quiescent_KernelIdeal_pre_pi_3210_Kernel (hKernelIdeal := hKernelIdeal) (hPre_pi_3210_Kernel := hPre_pi_3210_Kernel)
    ∧ quiescent_ReferenceIdeal (hReferenceIdeal := hReferenceIdeal)
    ∧ quiescent_ReferenceIdeal_pre_pi_0123_ReferenceIdeal (hReferenceIdeal := hReferenceIdeal) (hPre_pi_0123_ReferenceIdeal := hPre_pi_0123_ReferenceIdeal)
    ∧ quiescent_ReferenceIdeal_pre_pi_0132_ReferenceIdeal (hReferenceIdeal := hReferenceIdeal) (hPre_pi_0132_ReferenceIdeal := hPre_pi_0132_ReferenceIdeal)
    ∧ quiescent_ReferenceIdeal_pre_pi_0213_ReferenceIdeal (hReferenceIdeal := hReferenceIdeal) (hPre_pi_0213_ReferenceIdeal := hPre_pi_0213_ReferenceIdeal)
    ∧ quiescent_ReferenceIdeal_pre_pi_0231_ReferenceIdeal (hReferenceIdeal := hReferenceIdeal) (hPre_pi_0231_ReferenceIdeal := hPre_pi_0231_ReferenceIdeal)
    ∧ quiescent_ReferenceIdeal_pre_pi_0312_ReferenceIdeal (hReferenceIdeal := hReferenceIdeal) (hPre_pi_0312_ReferenceIdeal := hPre_pi_0312_ReferenceIdeal)
    ∧ quiescent_ReferenceIdeal_pre_pi_0321_ReferenceIdeal (hReferenceIdeal := hReferenceIdeal) (hPre_pi_0321_ReferenceIdeal := hPre_pi_0321_ReferenceIdeal)
    ∧ quiescent_ReferenceIdeal_pre_pi_1023_ReferenceIdeal (hReferenceIdeal := hReferenceIdeal) (hPre_pi_1023_ReferenceIdeal := hPre_pi_1023_ReferenceIdeal)
    ∧ quiescent_ReferenceIdeal_pre_pi_1032_ReferenceIdeal (hReferenceIdeal := hReferenceIdeal) (hPre_pi_1032_ReferenceIdeal := hPre_pi_1032_ReferenceIdeal)
    ∧ quiescent_ReferenceIdeal_pre_pi_1203_ReferenceIdeal (hReferenceIdeal := hReferenceIdeal) (hPre_pi_1203_ReferenceIdeal := hPre_pi_1203_ReferenceIdeal)
    ∧ quiescent_ReferenceIdeal_pre_pi_1230_ReferenceIdeal (hReferenceIdeal := hReferenceIdeal) (hPre_pi_1230_ReferenceIdeal := hPre_pi_1230_ReferenceIdeal)
    ∧ quiescent_ReferenceIdeal_pre_pi_1302_ReferenceIdeal (hReferenceIdeal := hReferenceIdeal) (hPre_pi_1302_ReferenceIdeal := hPre_pi_1302_ReferenceIdeal)
    ∧ quiescent_ReferenceIdeal_pre_pi_1320_ReferenceIdeal (hReferenceIdeal := hReferenceIdeal) (hPre_pi_1320_ReferenceIdeal := hPre_pi_1320_ReferenceIdeal)
    ∧ quiescent_ReferenceIdeal_pre_pi_2013_ReferenceIdeal (hReferenceIdeal := hReferenceIdeal) (hPre_pi_2013_ReferenceIdeal := hPre_pi_2013_ReferenceIdeal)
    ∧ quiescent_ReferenceIdeal_pre_pi_2031_ReferenceIdeal (hReferenceIdeal := hReferenceIdeal) (hPre_pi_2031_ReferenceIdeal := hPre_pi_2031_ReferenceIdeal)
    ∧ quiescent_ReferenceIdeal_pre_pi_2103_ReferenceIdeal (hReferenceIdeal := hReferenceIdeal) (hPre_pi_2103_ReferenceIdeal := hPre_pi_2103_ReferenceIdeal)
    ∧ quiescent_ReferenceIdeal_pre_pi_2130_ReferenceIdeal (hReferenceIdeal := hReferenceIdeal) (hPre_pi_2130_ReferenceIdeal := hPre_pi_2130_ReferenceIdeal)
    ∧ quiescent_ReferenceIdeal_pre_pi_2301_ReferenceIdeal (hReferenceIdeal := hReferenceIdeal) (hPre_pi_2301_ReferenceIdeal := hPre_pi_2301_ReferenceIdeal)
    ∧ quiescent_ReferenceIdeal_pre_pi_2310_ReferenceIdeal (hReferenceIdeal := hReferenceIdeal) (hPre_pi_2310_ReferenceIdeal := hPre_pi_2310_ReferenceIdeal)
    ∧ quiescent_ReferenceIdeal_pre_pi_3012_ReferenceIdeal (hReferenceIdeal := hReferenceIdeal) (hPre_pi_3012_ReferenceIdeal := hPre_pi_3012_ReferenceIdeal)
    ∧ quiescent_ReferenceIdeal_pre_pi_3021_ReferenceIdeal (hReferenceIdeal := hReferenceIdeal) (hPre_pi_3021_ReferenceIdeal := hPre_pi_3021_ReferenceIdeal)
    ∧ quiescent_ReferenceIdeal_pre_pi_3102_ReferenceIdeal (hReferenceIdeal := hReferenceIdeal) (hPre_pi_3102_ReferenceIdeal := hPre_pi_3102_ReferenceIdeal)
    ∧ quiescent_ReferenceIdeal_pre_pi_3120_ReferenceIdeal (hReferenceIdeal := hReferenceIdeal) (hPre_pi_3120_ReferenceIdeal := hPre_pi_3120_ReferenceIdeal)
    ∧ quiescent_ReferenceIdeal_pre_pi_3201_ReferenceIdeal (hReferenceIdeal := hReferenceIdeal) (hPre_pi_3201_ReferenceIdeal := hPre_pi_3201_ReferenceIdeal)
    ∧ quiescent_ReferenceIdeal_pre_pi_3210_ReferenceIdeal (hReferenceIdeal := hReferenceIdeal) (hPre_pi_3210_ReferenceIdeal := hPre_pi_3210_ReferenceIdeal)
    ∧ preserves_Kernel_KernelIdeal
    ∧ algebraic_KernelIdeal_ReferenceIdeal (hKernelIdeal := hKernelIdeal) (hReferenceIdeal := hReferenceIdeal) (hPre_pi_0123_Kernel := hPre_pi_0123_Kernel)
    ∧ algebraic_KernelIdeal_ReferenceIdeal_pre_pi_0132_Kernel (hKernelIdeal := hKernelIdeal) (hReferenceIdeal := hReferenceIdeal) (hPre_pi_0132_Kernel := hPre_pi_0132_Kernel)
    ∧ algebraic_KernelIdeal_ReferenceIdeal_pre_pi_0213_Kernel (hKernelIdeal := hKernelIdeal) (hReferenceIdeal := hReferenceIdeal) (hPre_pi_0213_Kernel := hPre_pi_0213_Kernel)
    ∧ algebraic_KernelIdeal_ReferenceIdeal_pre_pi_0231_Kernel (hKernelIdeal := hKernelIdeal) (hReferenceIdeal := hReferenceIdeal) (hPre_pi_0231_Kernel := hPre_pi_0231_Kernel)
    ∧ algebraic_KernelIdeal_ReferenceIdeal_pre_pi_0312_Kernel (hKernelIdeal := hKernelIdeal) (hReferenceIdeal := hReferenceIdeal) (hPre_pi_0312_Kernel := hPre_pi_0312_Kernel)
    ∧ algebraic_KernelIdeal_ReferenceIdeal_pre_pi_0321_Kernel (hKernelIdeal := hKernelIdeal) (hReferenceIdeal := hReferenceIdeal) (hPre_pi_0321_Kernel := hPre_pi_0321_Kernel)
    ∧ algebraic_KernelIdeal_ReferenceIdeal_pre_pi_1023_Kernel (hKernelIdeal := hKernelIdeal) (hReferenceIdeal := hReferenceIdeal) (hPre_pi_1023_Kernel := hPre_pi_1023_Kernel)
    ∧ algebraic_KernelIdeal_ReferenceIdeal_pre_pi_1032_Kernel (hKernelIdeal := hKernelIdeal) (hReferenceIdeal := hReferenceIdeal) (hPre_pi_1032_Kernel := hPre_pi_1032_Kernel)
    ∧ algebraic_KernelIdeal_ReferenceIdeal_pre_pi_1203_Kernel (hKernelIdeal := hKernelIdeal) (hReferenceIdeal := hReferenceIdeal) (hPre_pi_1203_Kernel := hPre_pi_1203_Kernel)
    ∧ algebraic_KernelIdeal_ReferenceIdeal_pre_pi_1230_Kernel (hKernelIdeal := hKernelIdeal) (hReferenceIdeal := hReferenceIdeal) (hPre_pi_1230_Kernel := hPre_pi_1230_Kernel)
    ∧ algebraic_KernelIdeal_ReferenceIdeal_pre_pi_1302_Kernel (hKernelIdeal := hKernelIdeal) (hReferenceIdeal := hReferenceIdeal) (hPre_pi_1302_Kernel := hPre_pi_1302_Kernel)
    ∧ algebraic_KernelIdeal_ReferenceIdeal_pre_pi_1320_Kernel (hKernelIdeal := hKernelIdeal) (hReferenceIdeal := hReferenceIdeal) (hPre_pi_1320_Kernel := hPre_pi_1320_Kernel)
    ∧ algebraic_KernelIdeal_ReferenceIdeal_pre_pi_2013_Kernel (hKernelIdeal := hKernelIdeal) (hReferenceIdeal := hReferenceIdeal) (hPre_pi_2013_Kernel := hPre_pi_2013_Kernel)
    ∧ algebraic_KernelIdeal_ReferenceIdeal_pre_pi_2031_Kernel (hKernelIdeal := hKernelIdeal) (hReferenceIdeal := hReferenceIdeal) (hPre_pi_2031_Kernel := hPre_pi_2031_Kernel)
    ∧ algebraic_KernelIdeal_ReferenceIdeal_pre_pi_2103_Kernel (hKernelIdeal := hKernelIdeal) (hReferenceIdeal := hReferenceIdeal) (hPre_pi_2103_Kernel := hPre_pi_2103_Kernel)
    ∧ algebraic_KernelIdeal_ReferenceIdeal_pre_pi_2130_Kernel (hKernelIdeal := hKernelIdeal) (hReferenceIdeal := hReferenceIdeal) (hPre_pi_2130_Kernel := hPre_pi_2130_Kernel)
    ∧ algebraic_KernelIdeal_ReferenceIdeal_pre_pi_2301_Kernel (hKernelIdeal := hKernelIdeal) (hReferenceIdeal := hReferenceIdeal) (hPre_pi_2301_Kernel := hPre_pi_2301_Kernel)
    ∧ algebraic_KernelIdeal_ReferenceIdeal_pre_pi_2310_Kernel (hKernelIdeal := hKernelIdeal) (hReferenceIdeal := hReferenceIdeal) (hPre_pi_2310_Kernel := hPre_pi_2310_Kernel)
    ∧ algebraic_KernelIdeal_ReferenceIdeal_pre_pi_3012_Kernel (hKernelIdeal := hKernelIdeal) (hReferenceIdeal := hReferenceIdeal) (hPre_pi_3012_Kernel := hPre_pi_3012_Kernel)
    ∧ algebraic_KernelIdeal_ReferenceIdeal_pre_pi_3021_Kernel (hKernelIdeal := hKernelIdeal) (hReferenceIdeal := hReferenceIdeal) (hPre_pi_3021_Kernel := hPre_pi_3021_Kernel)
    ∧ algebraic_KernelIdeal_ReferenceIdeal_pre_pi_3102_Kernel (hKernelIdeal := hKernelIdeal) (hReferenceIdeal := hReferenceIdeal) (hPre_pi_3102_Kernel := hPre_pi_3102_Kernel)
    ∧ algebraic_KernelIdeal_ReferenceIdeal_pre_pi_3120_Kernel (hKernelIdeal := hKernelIdeal) (hReferenceIdeal := hReferenceIdeal) (hPre_pi_3120_Kernel := hPre_pi_3120_Kernel)
    ∧ algebraic_KernelIdeal_ReferenceIdeal_pre_pi_3201_Kernel (hKernelIdeal := hKernelIdeal) (hReferenceIdeal := hReferenceIdeal) (hPre_pi_3201_Kernel := hPre_pi_3201_Kernel)
    ∧ algebraic_KernelIdeal_ReferenceIdeal_pre_pi_3210_Kernel (hKernelIdeal := hKernelIdeal) (hReferenceIdeal := hReferenceIdeal) (hPre_pi_3210_Kernel := hPre_pi_3210_Kernel)
-- ==== Pre_pi_0123_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0123_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0132_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0132_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0213_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0213_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0231_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0231_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0312_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0312_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0321_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_0321_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1023_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1023_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1032_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1032_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1203_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1203_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1230_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1230_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1302_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1302_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1320_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_1320_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2013_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2013_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2031_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2031_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2103_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2103_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2130_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2130_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2301_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2301_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2310_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_2310_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3012_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3012_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3021_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3021_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3102_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3102_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3120_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3120_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3201_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3201_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3210_Kernel.lean ====
abbrev S1x2048x1024 : Shape := ⟨3, ![1, 2048, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x2048x1024 .f32) (main_arg1 : IVec S4 32) : IVec S4 1 :=
  let main_c : IVec S4 32 := fun i => lit0 (S4.rowMajor i)
  let main_v0 : IVec S4 1 := cmpi .eq main_arg1 main_c
  main_v0
-- ==== Pre_pi_3210_ReferenceIdeal.lean ====
abbrev S4x2048x1024 : Shape := ⟨3, ![4, 2048, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x2048x1024 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x2048x1024 : Shape := ⟨3, ![1, 2048, 1024]⟩
abbrev S4 : Shape := ⟨1, ![4]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x2048x1024, .f32⟩
  | .hbm, ⟨1, _⟩ => ⟨S4, .i32⟩
  | .hbm, ⟨2, _⟩ => ⟨S1x2048x1024, .f32⟩
  | .local _ .vmem, ⟨0, _⟩ => ⟨S1x2048x1024, .f32⟩
  | .local _ .vmem, ⟨1, _⟩ => ⟨S1x2048x1024, .f32⟩
  | .local _ .smem, ⟨0, _⟩ => ⟨S4, .i32⟩
  | _, _ => ⟨S1x2048x1024, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 2 → Bool
  | ⟨0, _⟩ => false
  | ⟨1, _⟩ => true
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 2 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : Index := Scalar.indexCast v2
  ![v3.toNat]
def k0_dev1 (v4 : BitVec 32) : Nat :=
  let c0_i32_4 : BitVec 32 := 0#32
  let c1_i32_3 : BitVec 32 := 1#32
  let v18 : BitVec 32 := Scalar.muli v4 c1_i32_3
  let v19 : BitVec 32 := Scalar.addi c0_i32_4 v18
  v19.toNat

def k0_dev2 (d0 : Dev nD) (v5 : BitVec 32) (v8 : BitVec 32) (v11 : BitVec 32) (v14 : BitVec 32) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let c1_i32_6 : BitVec 32 := 1#32
  let v20 : BitVec 32 := Scalar.muli v16 c1_i32_6
  let v21 : BitVec 32 := Scalar.addi c0_i32_7 v20
  v21.toNat

def k0_dev3 (v4 : BitVec 32) : Nat :=
  let c0_i32_10 : BitVec 32 := 0#32
  let c1_i32_9 : BitVec 32 := 1#32
  let v22 : BitVec 32 := Scalar.muli v4 c1_i32_9
  let v23 : BitVec 32 := Scalar.addi c0_i32_10 v22
  v23.toNat
def k0_dev4 (v4 : BitVec 32) : Nat :=
  let c0_i32_16_r0 : BitVec 32 := 0#32
  let c1_i32_15_r0 : BitVec 32 := 1#32
  let v27_r0 : BitVec 32 := Scalar.muli v4 c1_i32_15_r0
  let v28_r0 : BitVec 32 := Scalar.addi c0_i32_16_r0 v27_r0
  v28_r0.toNat

def k0_chk1 (v4 : BitVec 32) : Prop :=
  ((k0_dev1 v4) < nD) ∧
  ((k0_dev3 v4) < nD) ∧
  ((k0_dev4 v4) < nD)
theorem k0_dev1_lt : ∀ (v4 : BitVec 32) (k0_hw1 : k0_chk1 v4), (k0_dev1 v4) < nD := fun v4 k0_hw1 => k0_hw1.1
theorem k0_dev3_lt : ∀ (v4 : BitVec 32) (k0_hw1 : k0_chk1 v4), (k0_dev3 v4) < nD := fun v4 k0_hw1 => k0_hw1.2.1
theorem k0_dev4_lt : ∀ (v4 : BitVec 32) (k0_hw1 : k0_chk1 v4), (k0_dev4 v4) < nD := fun v4 k0_hw1 => k0_hw1.2.2

def k0_dev5 (d0 : Dev nD) (v5 : BitVec 32) (v8 : BitVec 32) (v11 : BitVec 32) (v14 : BitVec 32) : Nat :=
  let c0_i32_19_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let c1_i32_18_r0 : BitVec 32 := 1#32
  let v29_r0 : BitVec 32 := Scalar.muli v16 c1_i32_18_r0
  let v30_r0 : BitVec 32 := Scalar.addi c0_i32_19_r0 v29_r0
  v30_r0.toNat

def k0_chk2 (d0 : Dev nD) (v5 : BitVec 32) (v8 : BitVec 32) (v11 : BitVec 32) (v14 : BitVec 32) : Prop :=
  ((k0_dev2 d0 v5 v8 v11 v14) < nD) ∧
  ((k0_dev5 d0 v5 v8 v11 v14) < nD)
theorem k0_dev2_lt : ∀ (d0 : Dev nD) (v5 : BitVec 32) (v8 : BitVec 32) (v11 : BitVec 32) (v14 : BitVec 32) (k0_hw2 : k0_chk2 d0 v5 v8 v11 v14), (k0_dev2 d0 v5 v8 v11 v14) < nD := fun d0 v5 v8 v11 v14 k0_hw2 => k0_hw2.1
theorem k0_dev5_lt : ∀ (d0 : Dev nD) (v5 : BitVec 32) (v8 : BitVec 32) (v11 : BitVec 32) (v14 : BitVec 32) (k0_hw2 : k0_chk2 d0 v5 v8 v11 v14), (k0_dev5 d0 v5 v8 v11 v14) < nD := fun d0 v5 v8 v11 v14 k0_hw2 => k0_hw2.2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x1024 : Shape := ⟨3, ![4, 2048, 1024]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Protocol.lean ====
/-
The protocol by which the four devices exchange their blocks, for an arbitrary routing.

The table `pi` names for every device the device its block goes to. `σ` is that routing as a permutation of
the devices: device `c` sends to `σ c` and receives from `σ.symm c`. A device talks over four semaphores:

* `gate`, the runtime's barrier semaphore, on which both partners of a device announce themselves;
* `sent` and `came`, the two DMA semaphores of the copy (source read, destination written);
* `leave`, the regular semaphore on which both partners say that they are finished.

Everything happens in one round (round 0). On its `gate` and on its `leave` a device expects one unit from the
device sending to it (duty `false`) and one from the device it sends to (duty `true`); on `sent` and on `came` it
expects the credit of one block. What a duty hands over is `handover` below: with its unit on the gate a receiver
lends its result buffer to the device sending to it, the copy returns the source buffer and the filled result buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-! ## Resources: the pipeline's own ghost state beside one copy of the rounds library -/

abbrev Talk : Type := URounds (GSem nD τ sig) Bool
abbrev Ghost : Type := UR sig nD τ × Talk

local notation "𝕄" => MT nD τ sig Unit (Elt F) ℕ Ghost ℕ

abbrev ES : Emb (UR sig nD τ) (MT nD τ sig Unit (Elt F) ℕ Ghost ℕ) := embL
abbrev ET : Emb Talk (MT nD τ sig Unit (Elt F) ℕ Ghost ℕ) := embR

variable (σ : Dev nD ≃ Dev nD) (m : (ℓ : Loc nD τ sig) → Buf (Elt F) ℓ)

/-! ## Buffers -/

abbrev piBuf : Memref sig .tc .smem S4 .i32 := Memref.whole cc0_stg0_0
abbrev xBuf : Memref sig .tc .vmem S1x2048x1024 .f32 := Memref.whole cc0_stg1_0
abbrev outBuf : Memref sig .tc .vmem S1x2048x1024 .f32 := Memref.whole cc0_stg2_0

/-- The table as staged on device `c`. -/
def tableOf (c : Dev nD) : (cc0_stg0_0 : Ref sig .tc).ty.Contents (Elt F) :=
  (win0_0.blk (0 : Fin 1)).view.read (Elt F) (m ((c : Thread nD τ).loc main_arg1))

/-- Device `c`'s block of `x` as staged. -/
def blockOf (c : Dev nD) : (cc0_stg1_0 : Ref sig .tc).ty.Contents (Elt F) :=
  (win0_1.blk (0 : Fin 1)).view.read (Elt F) (m ((c : Thread nD τ).loc main_arg0))

/-- What device `c` ends with: the block of the device that sends to it. -/
def received (c : Dev nD) : (cc0_stg2_0 : Ref sig .tc).ty.Contents (Elt F) := blockOf m (σ.symm c)

/-- Device `c` holds its staged block of `x`; -/
def xHeld (c : Dev nD) : sProp 𝕄 :=
  xBuf.view.loc (c : Thread nD τ) ↦[xBuf.view.set]{fullShare} blockOf m c
/-- device `c`'s result buffer, holding `f`. -/
def outHeld (c : Dev nD) (f : Buf (Elt F) (outBuf.view.loc (c : Thread nD τ))) : sProp 𝕄 :=
  outBuf.view.loc (c : Thread nD τ) ↦[outBuf.view.set]{fullShare} f

omit [FloatOps F] in
theorem xHeld_eq (c : Dev nD) : xHeld m c = (((c : Thread nD τ).loc cc0_stg1_0) ↦{fullShare} blockOf m c : sProp 𝕄) := by
  unfold xHeld; rw [View.set_whole]
omit [FloatOps F] in
theorem outHeld_eq (c : Dev nD) (f : Buf (Elt F) ((c : Thread nD τ).loc cc0_stg2_0)) :
    outHeld c f = (((c : Thread nD τ).loc cc0_stg2_0) ↦{fullShare} f : sProp 𝕄) := by
  unfold outHeld; rw [View.set_whole]

omit [FloatOps F] in
instance xHeld_storable (c : Dev nD) : BI.Storable (upEmb : UEmb _ 𝕄) (xHeld (F := F) m c) := by unfold xHeld; infer_instance
omit [FloatOps F] in
instance outHeld_storable (c : Dev nD) (f) : BI.Storable (upEmb : UEmb _ 𝕄) (outHeld (F := F) c f) := by
  unfold outHeld; infer_instance

omit [FloatOps F] in
/-- A copy of one whole buffer into another leaves the destination with the source's contents. -/
theorem copy_eq (c : Dev nD) (old : Buf (Elt F) (outBuf.view.loc (c : Thread nD τ))) (src : (cc0_stg1_0 : Ref sig .tc).ty.Contents (Elt F)) :
    outBuf.view.write (Elt F) old (xBuf.view.read (Elt F) src) Finset.univ = src := by
  show (View.whole cc0_stg2_0).write (Elt F) old ((View.whole cc0_stg1_0).read (Elt F) src) Finset.univ = src
  rw [View.read_whole]
  exact View.write_whole_univ _ _ _

/-! ## The four semaphores of a device -/

abbrev gateS : Sem sig := (SemArray.scalar (sig.barrier 0 rfl) : Sems sig S_).sem
abbrev gate : SemLoc sig := .reg gateS
abbrev sent : SemLoc sig := .dma (cc0_scratch0 : DmaSems sig S_).sem
abbrev came : SemLoc sig := .dma (cc0_scratch1 : DmaSems sig S_).sem
abbrev leave : SemLoc sig := .reg (cc0_scoped0 : Sems sig S_).sem

abbrev chan : Fin 4 → SemLoc sig := fun | 0 => gate | 1 => sent | 2 => came | 3 => leave
abbrev at_ (c : Dev nD) (sm : SemLoc sig) : GSem nD τ sig := ((c : Thread nD τ), sm)

theorem chan_injective : Function.Injective chan := by decide

/-- The credit of one block. -/
abbrev credit : ℕ := outBuf.view.dmaCredit
theorem credit_pos : 0 < credit := View.dmaCredit_pos _ (by decide)

/-! ## The schedule -/

/-- The duties on a semaphore: both partners on the gate and on the leaving semaphore, one on the copy's. -/
def dutiesOn (sm : SemLoc sig) : Finset Bool :=
  if sm = gate ∨ sm = leave then Finset.univ else if sm = sent ∨ sm = came then {false} else ∅

/-- The amount of a duty. -/
def units (sm : SemLoc sig) : ℕ := if sm = gate ∨ sm = leave then 1 else credit

/-- What duty `d` of device `c`'s semaphore hands to `c`. -/
def handover (c : Dev nD) (sm : SemLoc sig) (d : Bool) : sProp 𝕄 :=
  if sm = gate then (if d then iprop(∃ f, outHeld (σ c) f) else iprop(emp))
  else if sm = sent then xHeld m c
  else if sm = came then outHeld c (received σ m c)
  else iprop(emp)

/-- The protocol: one round, of the duties above, on the TensorCores' semaphores. -/
def plan : Rounds.Schedule (GSem nD τ sig) Bool 𝕄 where
  duties g r := if r = 0 ∧ g.1.2 = .tc then dutiesOn g.2 else ∅
  unitless _ := False
  amount g _ _ := units g.2
  payload g _ d := handover σ m g.1.1 g.2 d
  amount_pos g _ _ _ := by
    show 0 < units g.2
    unfold units; split
    · exact Nat.one_pos
    · exact credit_pos

instance plan_storable (g : GSem nD τ sig) (r : ℕ) (d : Bool) :
    BI.Storable (upEmb : UEmb _ 𝕄) ((plan (F := F) σ m).payload g r d) := by
  show BI.Storable upEmb (handover σ m g.1.1 g.2 d)
  unfold handover
  (repeat' split) <;> infer_instance

section Reading

variable (c : Dev nD)

omit [FloatOps F] in
theorem plan_duties (sm : SemLoc sig) : (plan (F := F) σ m).duties (at_ c sm) 0 = dutiesOn sm := by
  dsimp only [plan]; exact if_pos ⟨rfl, rfl⟩
omit [FloatOps F] in
theorem plan_amount (sm : SemLoc sig) (d : Bool) : (plan (F := F) σ m).amount (at_ c sm) 0 d = units sm := rfl
omit [FloatOps F] in
theorem plan_payload (sm : SemLoc sig) (d : Bool) : (plan (F := F) σ m).payload (at_ c sm) 0 d = handover σ m c sm d := rfl
omit [FloatOps F] in
theorem plan_over (g : GSem nD τ sig) : ∀ r, 1 ≤ r → (plan (F := F) σ m).duties g r = ∅ :=
  fun r hr => by dsimp only [plan]; exact if_neg fun h => by omega

theorem dutiesOn_gate : dutiesOn gate = Finset.univ := by decide
theorem dutiesOn_leave : dutiesOn leave = Finset.univ := by decide
theorem dutiesOn_sent : dutiesOn sent = {false} := by decide
theorem dutiesOn_came : dutiesOn came = {false} := by decide

theorem units_gate : units gate = 1 := if_pos (Or.inl rfl)
theorem units_leave : units leave = 1 := if_pos (Or.inr rfl)
theorem units_sent : units sent = credit := if_neg (by decide)
theorem units_came : units came = credit := if_neg (by decide)

omit [FloatOps F] in
/-- A semaphore with both duties expects twice a duty's amount, -/
theorem expect_both (sm : SemLoc sig) (h : dutiesOn sm = Finset.univ) : (plan (F := F) σ m).expect (at_ c sm) 0 = 2 * units sm := by
  unfold Schedule.expect Schedule.amountOf
  rw [plan_duties, h]
  show (∑ _d : Bool, units sm) = 2 * units sm
  rw [Finset.sum_const, Finset.card_univ, Fintype.card_bool, smul_eq_mul]
omit [FloatOps F] in
/-- one with a single duty expects its amount. -/
theorem expect_one (sm : SemLoc sig) (h : dutiesOn sm = {false}) : (plan (F := F) σ m).expect (at_ c sm) 0 = units sm := by
  unfold Schedule.expect Schedule.amountOf
  rw [plan_duties, h, Finset.sum_singleton]; rfl

omit [FloatOps F] in
theorem handover_sent (d : Bool) : handover (F := F) σ m c sent d = xHeld m c := by
  unfold handover; rw [if_neg (by decide), if_pos rfl]
omit [FloatOps F] in
theorem handover_came (d : Bool) : handover (F := F) σ m c came d = outHeld c (received σ m c) := by
  unfold handover; rw [if_neg (by decide), if_neg (by decide), if_pos rfl]
omit [FloatOps F] in
theorem handover_leave (d : Bool) : handover (F := F) σ m c leave d = iprop(emp) := by
  unfold handover; rw [if_neg (by decide), if_neg (by decide), if_neg (by decide)]
omit [FloatOps F] in
theorem handover_gate_false : handover (F := F) σ m c gate false = iprop(emp) := by
  unfold handover; rw [if_pos rfl, if_neg (by decide)]
omit [FloatOps F] in
theorem handover_gate_true : handover (F := F) σ m c gate true = iprop(∃ f, outHeld (σ c) f) := by
  unfold handover; rw [if_pos rfl, if_pos rfl]

omit [FloatOps F] in
/-- What a whole round of a semaphore with both duties hands over; -/
theorem round_both (sm : SemLoc sig) (h : dutiesOn sm = Finset.univ) :
    bigSep ((plan (F := F) σ m).duties (at_ c sm) 0 \ ∅) (fun d => (plan (F := F) σ m).payload (at_ c sm) 0 d)
      = iprop(handover σ m c sm false ∗ handover σ m c sm true) := by
  rw [Finset.sdiff_empty, plan_duties, h, bigSep_univ_eq_bigSepL [false, true] (by decide) (by decide), bigSepL_cons_cons, bigSepL_singleton]
  rfl
omit [FloatOps F] in
/-- and of one with a single duty. -/
theorem round_one (sm : SemLoc sig) (h : dutiesOn sm = {false}) :
    bigSep ((plan (F := F) σ m).duties (at_ c sm) 0 \ ∅) (fun d => (plan (F := F) σ m).payload (at_ c sm) 0 d)
      = handover σ m c sm false := by
  rw [Finset.sdiff_empty, plan_duties, h, bigSep_singleton]; rfl

end Reading

/-! ## What a device owes, and why its waits are safe -/

/-- Owed after the copy: the two units of leaving; -/
def owedLeave (c : Dev nD) : CellTallies nD τ sig Unit :=
  tallyAt (at_ (σ.symm c) leave) () 1 + tallyAt (at_ (σ c) leave) () 1
/-- before the copy: its credit at the destination too; -/
def owedCopy (c : Dev nD) : CellTallies nD τ sig Unit := owedLeave σ c + tallyAt (at_ (σ c) came) () credit
/-- before the second announcement; -/
def owedGate (c : Dev nD) : CellTallies nD τ sig Unit := owedCopy σ c + tallyAt (at_ (σ.symm c) gate) () 1
/-- at the launch. -/
def owedAll (c : Dev nD) : CellTallies nD τ sig Unit := owedGate σ c + tallyAt (at_ (σ c) gate) () 1

/-- The order of the waits: staging and `sent` first, then `gate`, `came`, `leave`. -/
def level (sm : SemLoc sig) : ℕ := if sm = gate then 1 else if sm = came then 2 else if sm = leave then 3 else 0

def units1 (g : GSem nD τ sig) : Finset Unit := if g.1.2 = .tc then {()} else ∅
def rank (g : GSem nD τ sig) (_ : Unit) : ℕ := level g.2

theorem units1_ne (g : GSem nD τ sig) (h : g.1.2 ≠ .tc) : units1 g = ∅ := if_neg h

/-- Everything owed in `O` is owed to TensorCore semaphores of a level above `n`. -/
def Above (n : ℕ) (O : CellTallies nD τ sig Unit) : Prop := ∀ g u, 0 < O g u → g.1.2 = .tc ∧ n < level g.2

theorem above_zero (n : ℕ) : Above n 0 := fun g u h => absurd h (Nat.lt_irrefl 0)
theorem Above.add {n : ℕ} {A B : CellTallies nD τ sig Unit} (hA : Above n A) (hB : Above n B) : Above n (A + B) := fun g u h => by
  rw [Pi.add_apply, Finsupp.add_apply] at h
  rcases Nat.eq_zero_or_pos (A g u) with h0 | h0
  · exact hB g u (by omega)
  · exact hA g u h0
theorem above_at {n : ℕ} (c : Dev nD) (sm : SemLoc sig) (k : ℕ) (h : n < level sm) : Above n (tallyAt (at_ c sm) () k) := fun g u hg => by
  rw [tallyAt_apply] at hg
  by_cases hc : g = at_ c sm ∧ u = ()
  · rw [hc.1]; exact ⟨rfl, h⟩
  · rw [if_neg hc] at hg; exact absurd hg (Nat.lt_irrefl 0)

theorem above_owedLeave (c : Dev nD) : Above 2 (owedLeave σ c) := (above_at _ _ _ (by decide)).add (above_at _ _ _ (by decide))
theorem Above.mono {n k : ℕ} (hk : k ≤ n) {O : CellTallies nD τ sig Unit} (h : Above n O) : Above k O :=
  fun g u hg => ⟨(h g u hg).1, Nat.lt_of_le_of_lt hk (h g u hg).2⟩
theorem above_owedCopy (c : Dev nD) : Above 1 (owedCopy σ c) :=
  ((above_owedLeave σ c).mono (by decide)).add (above_at _ _ _ (by decide))
theorem above_owedAll (c : Dev nD) : Above 0 (owedAll σ c) :=
  (((above_owedCopy σ c).mono (by decide)).add (above_at _ _ _ (by decide))).add (above_at _ _ _ (by decide))

omit [FloatOps F] in
/-- A device may wait on a semaphore when all it owes lies above that semaphore's level. -/
theorem may_wait (c : Dev nD) (sm : SemLoc sig) {O : CellTallies nD τ sig Unit} (h : Above (level sm) O) :
    (levAts units1 rank : sProp 𝕄) ⊢ MayWait (c : Thread nD τ) sm () O :=
  MayOwe.of_cut (L := units1) (lev := rank) (level sm)
    (fun p hp => by rw [Finset.mem_singleton.mp hp]; exact Finset.mem_singleton_self _)
    (fun g u hg => by unfold units1; rw [if_pos (h g u hg).1]; exact Finset.mem_singleton_self _)
    (fun p hp => by rw [Finset.mem_singleton.mp hp]; exact le_rfl)
    (fun g u hg => (h g u hg).2)

/-! ## What the body starts from and ends with -/

/-- The shared records: every cell's invariant, under the name `K` gives it, and that every cell is at round 0. -/
def records (K : Dev nD × Fin 4 → ℕ) : sProp 𝕄 :=
  iprop((bigSep Finset.univ fun ck : Dev nD × Fin 4 => cellInv ET (plan σ m) (K ck) (at_ ck.1 (chan ck.2)))
    ∗ bigSep Finset.univ fun ck : Dev nD × Fin 4 => reached ET (at_ ck.1 (chan ck.2)) 0)

instance records_persistent (K : Dev nD × Fin 4 → ℕ) : BI.Persistent (records (F := F) σ m K) := by unfold records; infer_instance

omit [FloatOps F] in
theorem records_inv (K : Dev nD × Fin 4 → ℕ) (c : Dev nD) (k : Fin 4) :
    records σ m K ⊢ (cellInv ET (plan σ m) (K (c, k)) (at_ c (chan k)) : sProp 𝕄) := by
  have h : (bigSep Finset.univ fun ck : Dev nD × Fin 4 => (cellInv ET (plan σ m) (K ck) (at_ ck.1 (chan ck.2)) : sProp 𝕄))
      ⊢ cellInv ET (plan σ m) (K (c, k)) (at_ c (chan k)) := bigSep_elim (Finset.mem_univ (c, k))
  unfold records
  iintro ⟨H, -⟩
  iapply h; iexact H
omit [FloatOps F] in
theorem records_reached (K : Dev nD × Fin 4 → ℕ) (c : Dev nD) (k : Fin 4) :
    records σ m K ⊢ (reached ET (at_ c (chan k)) 0 : sProp 𝕄) := by
  have h : (bigSep Finset.univ fun ck : Dev nD × Fin 4 => (reached ET (at_ ck.1 (chan ck.2)) 0 : sProp 𝕄))
      ⊢ reached ET (at_ c (chan k)) 0 := bigSep_elim (Finset.mem_univ (c, k))
  unfold records
  iintro ⟨-, H⟩
  iapply h; iexact H

/-- The rights to pay the six duties device `c` pays. -/
def dues (c : Dev nD) : sProp 𝕄 :=
  iprop(dutyTok ET (at_ (σ c) gate) 0 false ∗ dutyTok ET (at_ (σ.symm c) gate) 0 true
    ∗ dutyTok ET (at_ c sent) 0 false ∗ dutyTok ET (at_ (σ c) came) 0 false
    ∗ dutyTok ET (at_ (σ c) leave) 0 false ∗ dutyTok ET (at_ (σ.symm c) leave) 0 true)

/-- Device `c`'s positions at its four semaphores. -/
def places (c : Dev nD) : sProp 𝕄 :=
  iprop(atPos ET (at_ c gate) 0 ∅ 0 ∗ atPos ET (at_ c sent) 0 ∅ 0 ∗ atPos ET (at_ c came) 0 ∅ 0 ∗ atPos ET (at_ c leave) 0 ∅ 0)

/-- What the set-up gives device `c`: the records, its positions and its rights; -/
def dealt (c : Dev nD) : sProp 𝕄 := iprop(∃ K, records σ m K ∗ places c ∗ dues σ c)

/-- and what its waits need: the credits of what the others owe it, and the levels. -/
def credits (c : Dev nD) : sProp 𝕄 :=
  iprop(cred (tallyAt (at_ c gate) () 2) ∗ cred (tallyAt (at_ c came) () credit) ∗ cred (tallyAt (at_ c leave) () 2))

def opening (c : Dev nD) : sProp 𝕄 := iprop(dealt σ m c ∗ credits c ∗ levAts units1 rank)
/-- At the end the four semaphores are back at zero. -/
def closing (c : Dev nD) : sProp 𝕄 :=
  iprop(semVal (at_ c gate) 0 ∗ semVal (at_ c sent) 0 ∗ semVal (at_ c came) 0 ∗ semVal (at_ c leave) 0)

/-- The pipeline's proof data: the two inputs stay, the result is the block received. -/
def data (_ : Fin 1) (c : Dev nD) : Dat τ (Elt F) Unit ℕ Ghost ℕ cfg0 c where
  A w := m ((cfg0.win w).arr.view.loc (c : Thread nD τ))
  after w _ := match w with
    | ⟨0, _⟩ => tableOf m c
    | ⟨1, _⟩ => blockOf m c
    | ⟨2, _⟩ => received σ m c
  Φ t := match t with
    | ⟨0, _⟩ => opening σ m c
    | ⟨_ + 1, _⟩ => closing (F := F) c
  q _ := fullShare
  owed t := match t with
    | ⟨0, _⟩ => owedAll σ c
    | ⟨_ + 1, _⟩ => 0

end Cert.Route

end
-- ==== Proof.Body.lean ====
/-
One device's run of the kernel body under the protocol of Protocol.lean, for any routing `σ` that the table on
every device spells out (`Routed`). The words the body reads then name `σ c` and `σ.symm c`, and its effects are
taken in program order: the two announcements, the wait for both partners, the copy with its two waits, and the
leaving handshake.
-/
module

public import proofs.«01_k».proof.Proof.Protocol

@[expose] public section

noncomputable section

namespace Cert.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (σ : Dev nD ≃ Dev nD) (m : (ℓ : Loc nD τ sig) → Buf (Elt F) ℓ)

/-! ## The table's words -/

/-- The index of word `k` of the table. -/
def word (k : Dev nD) : S4.Idx := fun a => ⟨k.val, by have : k.val < 4 := k.isLt; fin_cases a; exact this⟩

/-- On every device, word `k` of the table is the number of the device that device `k` sends to. -/
def Routed : Prop := ∀ c k : Dev nD, (m ((c : Thread nD τ).loc main_arg1) : IVec S4 32) (word k) = BitVec.ofNat 32 (σ k).val

/-- The one word a rectangle of extent one reads from a staged table. -/
abbrev wordOf (r : Rect S4) (hr : r.shape.numel = 1) (f : (cc0_stg0_0 : Ref sig .tc).ty.Contents (Elt F)) : BitVec 32 :=
  (piBuf.access r : View sig .tc _ _ _).read (Elt F) f (Shape.Idx.first (s := r.shape) (hr.symm ▸ Nat.one_pos))

abbrev ownSlot (c : Dev nD) : Rect S4 := Rect.unit (s := S4) (k0_off1 c) S1.size (k0_off1_inb c)

variable {σ m} in
omit [FloatOps F] in
/-- The word at the device's own place, and the words at the four places. -/
theorem Routed.own (h : Routed σ m) (c : Dev nD) : wordOf (ownSlot c) numel1_S1 (tableOf m c) = BitVec.ofNat 32 (σ c).val := by
  refine Eq.trans ?_ (h c c)
  show m ((c : Thread nD τ).loc main_arg1) _ = _
  refine congrArg _ (funext fun a => Fin.ext ?_)
  fin_cases a; fin_cases c <;> rfl
variable {σ m} in
omit [FloatOps F] in
theorem Routed.place (h : Routed σ m) (c k : Dev nD) (off : Fin 1 → ℕ) (inb : ∀ a, off a + S1.size a ≤ S4.size a) (ho : off = ![k.val]) :
    wordOf (Rect.unit (s := S4) off S1.size inb) numel1_S1 (tableOf m c) = BitVec.ofNat 32 (σ k).val := by
  refine Eq.trans ?_ (h c k)
  subst ho
  show m ((c : Thread nD τ).loc main_arg1) _ = _
  refine congrArg _ (funext fun a => Fin.ext ?_)
  fin_cases a; fin_cases k <;> rfl

/-- A device's number, as a word, passes the kernel's check and names that device. -/
theorem number_ok (d : Dev nD) : k0_chk1 (BitVec.ofNat 32 d.val) := by revert d; decide
theorem number_dev1 (d : Dev nD) : k0_dev1 (BitVec.ofNat 32 d.val) = d.val := by revert d; decide
theorem number_dev3 (d : Dev nD) : k0_dev3 (BitVec.ofNat 32 d.val) = d.val := by revert d; decide
theorem number_dev4 (d : Dev nD) : k0_dev4 (BitVec.ofNat 32 d.val) = d.val := by revert d; decide

/-- Comparing the four words with a device's number finds the place where that number stands. -/
theorem search2 : ∀ f : Fin 4 → Fin 4, Function.Injective f → ∀ s : Fin 4,
    k0_dev2 (f s) (BitVec.ofNat 32 (f 0).val) (BitVec.ofNat 32 (f 1).val) (BitVec.ofNat 32 (f 2).val) (BitVec.ofNat 32 (f 3).val) = s.val := by
  decide +kernel
theorem search5 : ∀ f : Fin 4 → Fin 4, Function.Injective f → ∀ s : Fin 4,
    k0_dev5 (f s) (BitVec.ofNat 32 (f 0).val) (BitVec.ofNat 32 (f 1).val) (BitVec.ofNat 32 (f 2).val) (BitVec.ofNat 32 (f 3).val) = s.val := by
  decide +kernel

theorem origin2 (c : Dev nD) : k0_dev2 c (BitVec.ofNat 32 (σ 0).val) (BitVec.ofNat 32 (σ 1).val) (BitVec.ofNat 32 (σ 2).val)
    (BitVec.ofNat 32 (σ 3).val) = (σ.symm c).val := by
  have h := search2 σ σ.injective (σ.symm c); rwa [σ.apply_symm_apply] at h
theorem origin5 (c : Dev nD) : k0_dev5 c (BitVec.ofNat 32 (σ 0).val) (BitVec.ofNat 32 (σ 1).val) (BitVec.ofNat 32 (σ 2).val)
    (BitVec.ofNat 32 (σ 3).val) = (σ.symm c).val := by
  have h := search5 σ σ.injective (σ.symm c); rwa [σ.apply_symm_apply] at h

abbrev slot0 : Rect S4 := Rect.unit (s := S4) ![0] S1.size inb_S4_S1_0
abbrev slot1 : Rect S4 := Rect.unit (s := S4) ![1] S1.size inb_S4_S1_1
abbrev slot2 : Rect S4 := Rect.unit (s := S4) ![2] S1.size inb_S4_S1_2
abbrev slot3 : Rect S4 := Rect.unit (s := S4) ![3] S1.size inb_S4_S1_3

section Names

variable {σ m} (h : Routed σ m) (c : Dev nD)
include h

omit [FloatOps F] in
/-- The word at the device's own place names a device; -/
theorem Routed.check : k0_chk1 (wordOf (ownSlot c) numel1_S1 (tableOf m c)) := by rw [h.own]; exact number_ok _
omit [FloatOps F] in
/-- it is the device `σ c`, at the announcement, -/
theorem Routed.target1 (hw : k0_chk1 (wordOf (ownSlot c) numel1_S1 (tableOf m c))) :
    (⟨k0_dev1 (wordOf (ownSlot c) numel1_S1 (tableOf m c)), k0_dev1_lt _ hw⟩ : Dev nD) = σ c := Fin.ext (by
  show k0_dev1 _ = _; rw [h.own]; exact number_dev1 _)
omit [FloatOps F] in
/-- at the copy, -/
theorem Routed.target3 (hw : k0_chk1 (wordOf (ownSlot c) numel1_S1 (tableOf m c))) :
    (⟨k0_dev3 (wordOf (ownSlot c) numel1_S1 (tableOf m c)), k0_dev3_lt _ hw⟩ : Dev nD) = σ c := Fin.ext (by
  show k0_dev3 _ = _; rw [h.own]; exact number_dev3 _)
omit [FloatOps F] in
/-- and at leaving. -/
theorem Routed.target4 (hw : k0_chk1 (wordOf (ownSlot c) numel1_S1 (tableOf m c))) :
    (⟨k0_dev4 (wordOf (ownSlot c) numel1_S1 (tableOf m c)), k0_dev4_lt _ hw⟩ : Dev nD) = σ c := Fin.ext (by
  show k0_dev4 _ = _; rw [h.own]; exact number_dev4 _)
omit [FloatOps F] in
/-- The place at which the device's own number stands is `σ.symm c`, at the announcement -/
theorem Routed.source2 (hw) : (⟨k0_dev2 c (wordOf slot0 numel1_S1 (tableOf m c)) (wordOf slot1 numel1_S1 (tableOf m c)) (wordOf slot2 numel1_S1 (tableOf m c))
      (wordOf slot3 numel1_S1 (tableOf m c)), k0_dev2_lt _ _ _ _ _ hw⟩ : Dev nD) = σ.symm c := Fin.ext (by
  show k0_dev2 _ _ _ _ _ = _
  rw [h.place c 0 ![0] _ rfl, h.place c 1 ![1] _ rfl, h.place c 2 ![2] _ rfl, h.place c 3 ![3] _ rfl]; exact origin2 σ c)
omit [FloatOps F] in
/-- and at leaving. -/
theorem Routed.source5 (hw) : (⟨k0_dev5 c (wordOf slot0 numel1_S1 (tableOf m c)) (wordOf slot1 numel1_S1 (tableOf m c)) (wordOf slot2 numel1_S1 (tableOf m c))
      (wordOf slot3 numel1_S1 (tableOf m c)), k0_dev5_lt _ _ _ _ _ hw⟩ : Dev nD) = σ.symm c := Fin.ext (by
  show k0_dev5 _ _ _ _ _ = _
  rw [h.place c 0 ![0] _ rfl, h.place c 1 ![1] _ rfl, h.place c 2 ![2] _ rfl, h.place c 3 ![3] _ rfl]; exact origin5 σ c)

end Names

/-! ## The three kinds of step -/

abbrev none₀ : Variants := Variants.none

section Steps

variable (K : Dev nD × Fin 4 → ℕ) {α : Type} {Q : α → sProp (MT nD τ sig Unit (Elt F) ℕ Ghost ℕ)}
  {next : PUnit → Prog (TpuEff nD τ sig (Elt F) Λ₀ .tc) α}

/-- A unit signalled to device `t` (named by `n`) on one of the two handshake semaphores. -/
theorem step_signal (c n t : Dev nD) (hn : n = t) (s : Sem sig) (k : Fin 4) (hk : chan k = .reg s) (d : Bool)
    (hd : dutiesOn (.reg s) = Finset.univ) (hu : units (.reg s) = 1) (O : CellTallies nD τ sig Unit) (W : Waits sig Unit) :
    iprop(records σ m K ∗ owes (c : Thread nD τ) (O + tallyAt (at_ t (.reg s)) () 1) W ∗ dutyTok ET (at_ t (.reg s)) 0 d ∗ handover σ m t (.reg s) d)
      ⊢ iprop((owes (c : Thread nD τ) O W -∗ wp frame (wpE (defs₀ (F := F)) none₀ (c : Thread nD τ) none) Set.univ (next ⟨⟩) Q)
          -∗ wp frame (wpE (defs₀ (F := F)) none₀ (c : Thread nD τ) none) Set.univ (.op (.semSignal (Dev.tc n) s (1#32).toInt) next) Q) := by
  subst hn
  have hI := records_inv (F := F) σ m K n k
  have hR := records_reached (F := F) σ m K n k
  rw [hk] at hI hR
  iintro ⟨#Hrec, HO, Ht, Hp⟩ Hk
  iapply (Rounds.wp_signal none₀ ET (plan σ m) (c : Thread nD τ) none (dst := (n : Thread nD τ)) (κ := K (n, k))
      (d := d) (by rw [plan_duties, hd]; exact Finset.mem_univ _)
      (show units (.reg s) = (1#32 : BitVec 32).toNat from hu.trans (by decide)) () O rfl) $$ [HO Ht Hp]
  · isplitr; · iapply hI; iexact Hrec
    isplitl [HO]; · iexact HO
    isplitl [Ht]; · iexact Ht
    isplitl [Hp]; · rw [plan_payload]; iexact Hp
    iapply hR; iexact Hrec
  iexact Hk

/-- A wait for a whole round of one of the device's own semaphores: the round's handovers come with it, and the
    semaphore, done for good, is back at zero. -/
theorem step_wait (c : Dev nD) (sm : SemLoc sig) (k : Fin 4) (hk : chan k = sm) {w : TpuEff nD τ sig (Elt F) Λ₀ .tc PUnit} (n : ℕ)
    (hw : ∀ K' : PUnit → sProp 𝕄, wpE (defs₀ (F := F)) none₀ (c : Thread nD τ) none Set.univ w K' = waitSpec (c : Thread nD τ) Set.univ sm n K')
    (hn : (plan (F := F) σ m).expect (at_ c sm) 0 = n) {O : CellTallies nD τ sig Unit} (hO : Above (level sm) O) (W : Waits sig Unit) :
    iprop(records σ m K ∗ levAts units1 rank ∗ cred (tallyAt (at_ c sm) () n) ∗ owes (c : Thread nD τ) O W ∗ atPos ET (at_ c sm) 0 ∅ 0)
      ⊢ iprop(((owes (c : Thread nD τ) O (insert (sm, ()) W) ∗ semVal (at_ c sm) 0
              ∗ bigSep ((plan σ m).duties (at_ c sm) 0 \ ∅) (fun d => (plan σ m).payload (at_ c sm) 0 d))
            -∗ wp frame (wpE (defs₀ (F := F)) none₀ (c : Thread nD τ) none) Set.univ (next ⟨⟩) Q)
          -∗ wp frame (wpE (defs₀ (F := F)) none₀ (c : Thread nD τ) none) Set.univ (.op w next) Q) := by
  have hI := records_inv (F := F) σ m K c k
  rw [hk] at hI
  iintro ⟨#Hrec, #Hlev, Hc, HO, Hat⟩ Hk
  iapply (Rounds.wp_wait_rest_token none₀ ET (plan σ m) (c : Thread nD τ) none (κ := K (c, k))
      hw (Set.mem_univ _) () (O := O) (W := W) (R := 0) (m := 0) (T := ∅) (by rw [Nat.zero_add, hn])) $$ [Hc HO Hat]
  · isplitr; · iapply hI; iexact Hrec
    isplitl [Hc]; · iexact Hc
    isplitl [HO]; · iexact HO
    isplitr; · iapply (may_wait c sm hO); iexact Hlev
    iexact Hat
  iintro ⟨HO, Hat, -, Hp⟩
  imod (Rounds.cell_close ET (plan σ m) (Set.mem_univ (K (c, k))) (fun h => h) (R := 0 + 1) (plan_over σ m (at_ c sm))) $$ [Hat] with Hz
  · isplitr; · iapply hI; iexact Hrec
    iexact Hat
  iapply Hk
  isplitl [HO]; · iexact HO
  isplitl [Hz]; · iexact Hz
  iexact Hp

/-- The copy of the device's block into the result buffer of device `n = σ c`, which lent it. -/
theorem step_copy (c n : Dev nD) (hn : n = σ c) {hsc : (outBuf : Memref sig (Dev.tc n : Thread nD τ).2.kind .vmem S1x2048x1024 .f32).view.ref.isScScratch = false}
    {hsrc : xBuf.view.WordExact} {hdst : outBuf.view.WordExact}
    {hsem : DmaTarget.Typed .vmem came (.remote (Dev.tc n : Thread nD τ) outBuf sent hsc)}
    (old : Buf (Elt F) (outBuf.view.loc (σ c : Thread nD τ))) (W : Waits sig Unit) :
    iprop(records σ m K ∗ xHeld m c ∗ outHeld (σ c) old ∗ owes (c : Thread nD τ) (owedCopy σ c) W
        ∗ dutyTok ET (at_ c sent) 0 false ∗ dutyTok ET (at_ (σ c) came) 0 false)
      ⊢ iprop(((cred (tallyAt (at_ c sent) () credit) ∗ owes (c : Thread nD τ) (owedLeave σ c) W)
            -∗ wp frame (wpE (defs₀ (F := F)) none₀ (c : Thread nD τ) none) Set.univ (next ⟨⟩) Q)
          -∗ wp frame (wpE (defs₀ (F := F)) none₀ (c : Thread nD τ) none) Set.univ
              (.op (.enqueueDma xBuf (.remote (Dev.tc n : Thread nD τ) outBuf sent hsc) came hsrc hdst hsem) next) Q) := by
  subst hn
  iintro ⟨#Hrec, Hx, Ho, HO, Hts, Htc⟩ Hk
  unfold xHeld outHeld
  iapply (Rounds.wp_send_pointsTo none₀ ET (plan σ m) (c : Thread nD τ) none (κ₁ := K (c, 1)) (κ₂ := K (σ c, 2))
      (r₁ := 0) (r₂ := 0) (d₁ := false) (d₂ := false) (fd := old)
      (by rw [plan_duties, dutiesOn_sent]; exact Finset.mem_singleton_self _)
      (by rw [plan_duties, dutiesOn_came]; exact Finset.mem_singleton_self _)
      () () credit rfl ((plan_amount σ m c sent false).trans units_sent) ((plan_amount σ m (σ c) came false).trans units_came) (owedLeave σ c) rfl (W := W)
      (by rw [plan_payload, handover_sent]; exact BI.Entails.refl _)
      (by rw [plan_payload, handover_came, copy_eq]; unfold outHeld received; rw [σ.symm_apply_apply])) $$ [Hx Ho HO Hts Htc]
  · isplitr; · iapply (records_inv σ m K c 1); iexact Hrec
    isplitr; · iapply (records_inv σ m K (σ c) 2); iexact Hrec
    isplitl [Hx]; · iexact Hx
    isplitl [Ho]; · iexact Ho
    isplitl [HO]; · iexact HO
    isplitl [Hts]; · iexact Hts
    isplitr; · iapply (records_reached σ m K c 1); iexact Hrec
    isplitl [Htc]; · iexact Htc
    iapply (records_reached σ m K (σ c) 2); iexact Hrec
  iexact Hk

end Steps

/-! ## The body -/

omit [FloatOps F] in
/-- Holding a whole staging buffer at known contents, spelt out. -/
theorem owns_whole (c : Dev nD) (b : Ref sig .tc) (X : b.ty.Contents (Elt F)) :
    (owns (Ix := Unit) (Name := ℕ) (U := Ghost) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The source's credit is the destination's. -/
theorem credit_x : xBuf.view.dmaCredit = credit := rfl

/-- The grid's one point. -/
def here : Fin cfg0.N := t0_0

/-- The state before the body; -/
def before (c : Dev nD) : sProp 𝕄 :=
  iprop(opening σ m c ∗ (data σ m 0 c).owesAt () here.castSucc
    ∗ (∃ d, held c cc0_stg0_0 ((data σ m 0 c).before (0 : Fin 3) here d))
    ∗ (∃ d, held c cc0_stg1_0 ((data σ m 0 c).before (1 : Fin 3) here d))
    ∗ (∃ d, held c cc0_stg2_0 ((data σ m 0 c).before (2 : Fin 3) here d)))
/-- and after it. -/
def after (c : Dev nD) : sProp 𝕄 :=
  iprop(closing (F := F) c ∗ (data σ m 0 c).owesAt () here.succ
    ∗ held c cc0_stg0_0 (tableOf m c) ∗ held c cc0_stg1_0 (blockOf m c) ∗ held c cc0_stg2_0 (received σ m c))

variable {σ m} in
set_option maxHeartbeats 4000000 in
/-- The body takes a device from `before` to `after`. -/
theorem body_runs (h : Routed σ m) (c : Dev nD) (Kt : PUnit → sProp 𝕄) :
    iprop(before σ m c ∗ (after σ m c -∗ Kt ⟨⟩))
      ⊢ wp frame (wpE (defs₀ (F := F)) none₀ c none) Set.univ
          (cc0_body piBuf (Memref.isWhole_whole _) xBuf (Memref.isWhole_whole _) outBuf (Memref.isWhole_whole _)
            cc0_scratch0 cc0_scratch1 cc0_scoped0) Kt := by
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold before opening dealt places dues credits
  iintro ⟨⟨⟨⟨%K, #Hrec, ⟨HaG, HaS, HaC, HaL⟩, HtG, HtG', HtS, HtC, HtL, HtL'⟩, ⟨HcG, HcC, HcL⟩, #Hlev⟩,
    Ho, ⟨%d0, %g0, %hg0, Hpi⟩, ⟨%d1, %g1, %hg1, Hx⟩, ⟨%d2, %g2, %hg2, Hout⟩⟩, Hk⟩
  have hp : g0 = tableOf m c := by rw [hg0]; unfold Dat.before; rw [if_pos (fetch0_0 here)]; rfl
  subst hp
  have hx : g1 = blockOf m c := by rw [hg1]; unfold Dat.before; rw [if_pos (fetch0_1 here)]; rfl
  subst hx
  unfold Dat.owesAt Pipeline.owesWithin
  icases Ho with ⟨%W, %hW, HO⟩
  rw [show (data σ m 0 c).owed here.castSucc = owedAll σ c from rfl]
  -- the table's word at the device's own place
  iapply (wp_load_rect none₀ (c : Thread nD τ) none Set.univ (m := piBuf) (r := ownSlot c) (Finset.subset_univ _)) $$ Hpi; iintro Hpi
  simp only [wp_assume_of _ _ _ _ (d := k0_chk1.dec _) (h.check c)]
  -- its four words
  iapply (wp_load_rect none₀ (c : Thread nD τ) none Set.univ (m := piBuf) (r := slot0) (Finset.subset_univ _)) $$ Hpi; iintro Hpi
  iapply (wp_load_rect none₀ (c : Thread nD τ) none Set.univ (m := piBuf) (r := slot1) (Finset.subset_univ _)) $$ Hpi; iintro Hpi
  iapply (wp_load_rect none₀ (c : Thread nD τ) none Set.univ (m := piBuf) (r := slot2) (Finset.subset_univ _)) $$ Hpi; iintro Hpi
  iapply (wp_load_rect none₀ (c : Thread nD τ) none Set.univ (m := piBuf) (r := slot3) (Finset.subset_univ _)) $$ Hpi; iintro Hpi
  simp only [wp_assume_of _ _ _ _ (d := k0_chk2.dec _ _ _ _ _) (k0_chk2_all _ _ _ _ _)]
  -- the announcements: to the destination, and to the origin with the result buffer
  unfold owedAll
  iapply (step_signal σ m K c _ (σ c) (h.target1 c (h.check c)) gateS 0 rfl false dutiesOn_gate units_gate (owedGate σ c) W) $$ [HO HtG]
  · isplitr; · iexact Hrec
    isplitl [HO]; · iexact HO
    isplitl [HtG]; · iexact HtG
    rw [handover_gate_false]; iempintro
  iintro HO
  unfold owedGate
  iapply (step_signal σ m K c _ (σ.symm c) (h.source2 c (k0_chk2_all _ _ _ _ _)) gateS 0 rfl true dutiesOn_gate units_gate (owedCopy σ c) W) $$ [HO HtG' Hout]
  · isplitr; · iexact Hrec
    isplitl [HO]; · iexact HO
    isplitl [HtG']; · iexact HtG'
    rw [handover_gate_true, σ.apply_symm_apply]
    iexists g2; rw [outHeld_eq]; iexact Hout
  iintro HO
  -- both partners are there: the destination's result buffer is lent
  iapply (step_wait σ m K c gate 0 rfl 2 (wpE_semWait_eq none₀ (c : Thread nD τ) none Set.univ)
      (by rw [expect_both _ _ _ _ dutiesOn_gate, units_gate]) (above_owedCopy σ c) W) $$ [HcG HO HaG]
  · isplitr; · iexact Hrec
    isplitr; · iexact Hlev
    isplitl [HcG]; · iexact HcG
    isplitl [HO] <;> iassumption
  iintro ⟨HO, HzG, Hp⟩
  ihave Hp' := (Entails.of_eq ((round_both σ m c gate dutiesOn_gate).trans (by rw [handover_gate_false, handover_gate_true]))) $$ Hp
  icases Hp' with ⟨-, ⟨%old, Hlent⟩⟩
  -- the copy
  ihave Hx' := (Entails.of_eq (xHeld_eq m c).symm) $$ Hx
  iapply (step_copy σ m K c _ (h.target3 c (h.check c)) old (insert (gate, ()) W)) $$ [Hx' Hlent HO HtS HtC]
  · isplitr; · iexact Hrec
    isplitl [Hx']; · iexact Hx'
    isplitl [Hlent]; · iexact Hlent
    isplitl [HO]; · iexact HO
    isplitl [HtS] <;> iassumption
  iintro ⟨HcS, HO⟩
  iapply (step_wait σ m K c sent 1 rfl xBuf.view.dmaCredit (wpE_waitDma2_eq none₀ (c : Thread nD τ) none Set.univ)
      (by rw [expect_one _ _ _ _ dutiesOn_sent, units_sent, credit_x]) ((above_owedLeave σ c).mono (by decide)) (insert (gate, ()) W)) $$ [HcS HO HaS]
  · isplitr; · iexact Hrec
    isplitr; · iexact Hlev
    isplitl [HcS]; · rw [credit_x]; iexact HcS
    isplitl [HO] <;> iassumption
  iintro ⟨HO, HzS, Hp⟩
  ihave Hx := (Entails.of_eq ((round_one σ m c sent dutiesOn_sent).trans ((handover_sent σ m c false).trans (xHeld_eq m c)))) $$ Hp
  iapply (step_wait σ m K c came 2 rfl credit (wpE_waitDma2_eq none₀ (c : Thread nD τ) none Set.univ)
      (by rw [expect_one _ _ _ _ dutiesOn_came, units_came]) ((above_owedLeave σ c).mono (by decide)) (insert (sent, ()) (insert (gate, ()) W))) $$ [HcC HO HaC]
  · isplitr; · iexact Hrec
    isplitr; · iexact Hlev
    isplitl [HcC]; · iexact HcC
    isplitl [HO] <;> iassumption
  iintro ⟨HO, HzC, Hp⟩
  ihave Hout := (Entails.of_eq ((round_one σ m c came dutiesOn_came).trans ((handover_came σ m c false).trans (outHeld_eq c _)))) $$ Hp
  -- the leaving handshake
  unfold owedLeave
  iapply (step_signal σ m K c _ (σ c) (h.target4 c (h.check c)) cc0_scoped0.sem 3 rfl false dutiesOn_leave units_leave
      (tallyAt (at_ (σ.symm c) leave) () 1) (insert (came, ()) (insert (sent, ()) (insert (gate, ()) W)))) $$ [HO HtL]
  · isplitr; · iexact Hrec
    isplitl [HO]; · iexact HO
    isplitl [HtL]; · iexact HtL
    rw [handover_leave]; iempintro
  iintro HO
  iapply (step_signal σ m K c _ (σ.symm c) (h.source5 c (k0_chk2_all _ _ _ _ _)) cc0_scoped0.sem 3 rfl true dutiesOn_leave units_leave
      0 (insert (came, ()) (insert (sent, ()) (insert (gate, ()) W)))) $$ [HO HtL']
  · isplitr; · iexact Hrec
    isplitl [HO]; · rw [zero_add]; iexact HO
    isplitl [HtL']; · iexact HtL'
    rw [handover_leave]; iempintro
  iintro HO
  iapply (step_wait σ m K c leave 3 rfl 2 (wpE_semWait_eq none₀ (c : Thread nD τ) none Set.univ)
      (by rw [expect_both _ _ _ _ dutiesOn_leave, units_leave]) (above_zero _) (insert (came, ()) (insert (sent, ()) (insert (gate, ()) W)))) $$ [HcL HO HaL]
  · isplitr; · iexact Hrec
    isplitr; · iexact Hlev
    isplitl [HcL]; · iexact HcL
    isplitl [HO] <;> iassumption
  iintro ⟨HO, HzL, -⟩
  rw [wp_ret]; imodintro
  iapply Hk
  unfold after closing Dat.owesAt Pipeline.owesWithin
  rw [show (data σ m 0 c).owed here.succ = 0 from rfl]
  isplitl [HzG HzS HzC HzL]
  · isplitl [HzG]; · iexact HzG
    isplitl [HzS]; · iexact HzS
    isplitl [HzC] <;> iassumption
  isplitl [HO]
  · iexists (insert (leave, ()) (insert (came, ()) (insert (sent, ()) (insert (gate, ()) W))))
    isplitr; · ipureintro; exact fun _ _ => Or.inl trivial
    iexact HO
  isplitl [Hpi]
  · iexists _; isplitr; · (ipureintro; rfl)
    iexact Hpi
  isplitl [Hx]
  · iexists _; isplitr; · (ipureintro; rfl)
    iexact Hx
  iexists _; isplitr; · (ipureintro; rfl)
  iexact Hout

omit [FloatOps F] in
theorem windows (Φ : Fin cfg0.W → sProp 𝕄) : bigSep Finset.univ Φ = iprop(Φ (0 : Fin 3) ∗ Φ (1 : Fin 3) ∗ Φ (2 : Fin 3)) := bigSep_W0 Φ

variable {σ m} in
set_option maxRecDepth 4000 in
/-- What the pipeline asks of the body. -/
theorem body_meets (h : Routed σ m) (c : Dev nD) : BodyObligation (data (F := F) σ m 0 c) (defs₀ (F := F)) none₀ () Set.univ := fun t => by
  rw [show t = here from fin_N0 t, windows, windows]
  simp only [owns_whole]
  show before σ m c ⊢ wp frame (wpE (defs₀ (F := F)) none₀ c none) Set.univ
    (cc0_body piBuf (Memref.isWhole_whole _) xBuf (Memref.isWhole_whole _) outBuf (Memref.isWhole_whole _)
      cc0_scratch0 cc0_scratch1 cc0_scoped0) (fun _ => after σ m c)
  iintro H
  iapply (body_runs h c fun _ => after σ m c)
  isplitl [H]; · iexact H
  iintro H'; iexact H'

end Cert.Route

end
-- ==== Proof.Run.lean ====
/-
The whole run: the four devices' cells set up together, the rights dealt along the routing, the credits of what is
owed, and with them the run of `main` for any routing the table spells out (`run`).
-/
module

public import proofs.«01_k».proof.Proof.Body
public import Idealize.ShloMosaic.Lib.Pipeline.CollectiveSegs

@[expose] public section

noncomputable section

namespace Cert.Route

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ Ghost ℕ

variable (σ : Dev nD ≃ Dev nD) (m : (ℓ : Loc nD τ sig) → Buf (Elt F) ℓ) (ρ : Dev nD → PrngReg)

/-! ## Cells and rights at the launch -/

/-- The cell of a device's `k`-th semaphore. -/
abbrev cellAt (ck : Dev nD × Fin 4) : GSem nD τ sig := at_ ck.1 (chan ck.2)

theorem dev_of_cell {a b : Dev nD} {s t : SemLoc sig} (h : at_ a s = at_ b t) : a = b :=
  congrArg (fun g : GSem nD τ sig => g.1.1) h

theorem cellAt_injective : Function.Injective cellAt := fun x y h =>
  Prod.ext (dev_of_cell h) (chan_injective (congrArg Prod.snd h))

/-- The six duties on a device's own semaphores: which semaphore, which name. -/
def dutyAt : Fin 6 → Fin 4 × Bool := fun
  | 0 => (0, false) | 1 => (0, true) | 2 => (1, false) | 3 => (2, false) | 4 => (3, false) | 5 => (3, true)
theorem dutyAt_injective : Function.Injective dutyAt := by decide

abbrev rightAt (cj : Dev nD × Fin 6) : GSem nD τ sig × ℕ × Bool := (cellAt (cj.1, (dutyAt cj.2).1), 0, (dutyAt cj.2).2)

theorem rightAt_injective : Function.Injective rightAt := fun x y h => by
  have h1 : (x.1, (dutyAt x.2).1) = (y.1, (dutyAt y.2).1) := cellAt_injective (congrArg Prod.fst h)
  have h2 : (dutyAt x.2).2 = (dutyAt y.2).2 := congrArg (fun z : GSem nD τ sig × ℕ × Bool => z.2.2) h
  exact Prod.ext (congrArg (fun z : Dev nD × Fin 4 => z.1) h1) (dutyAt_injective (Prod.ext (congrArg (fun z : Dev nD × Fin 4 => z.2) h1) h2))

def allCells : Finset (GSem nD τ sig) := Finset.univ.map ⟨cellAt, cellAt_injective⟩
def allRights : Finset (GSem nD τ sig × ℕ × Bool) := Finset.univ.map ⟨rightAt, rightAt_injective⟩

/-- The ghost state at the launch: the pipeline's, and the protocol's. -/
def seed : Ghost :=
  (initOf (Pipeline.cells cfgs cellOf_inj) (Pipeline.launchToks cfgs cellOf_inj), initOf allCells allRights)

/-- The rights over device `c`'s own semaphores. -/
def rights (c : Dev nD) : sProp 𝕄 :=
  iprop(dutyTok ET (at_ c gate) 0 false ∗ dutyTok ET (at_ c gate) 0 true ∗ dutyTok ET (at_ c sent) 0 false
    ∗ dutyTok ET (at_ c came) 0 false ∗ dutyTok ET (at_ c leave) 0 false ∗ dutyTok ET (at_ c leave) 0 true)

/-- What the launch element gives device `c`: its cells' states, positions and rounds, and the rights over them. -/
def given (c : Dev nD) : sProp 𝕄 :=
  iprop((bigSep Finset.univ fun k : Fin 4 => roundState ET (plan σ m) (cellAt (c, k)) 0)
    ∗ (bigSep Finset.univ fun k : Fin 4 => iprop(atPos ET (cellAt (c, k)) 0 ∅ 0 ∗ reached ET (cellAt (c, k)) 0))
    ∗ rights c)

omit [FloatOps F] in
theorem over4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem over6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
/-- The launch element is what it gives each device. -/
theorem seed_gives : BI.own (ET (initOf allCells allRights)) ⊢ (|==> bigSep Finset.univ (given σ m) : sProp 𝕄) := by
  have byDev (Φ : GSem nD τ sig → sProp 𝕄) : bigSep allCells Φ = bigSep Finset.univ fun c : Dev nD => bigSep Finset.univ fun k : Fin 4 => Φ (cellAt (c, k)) := by
    unfold allCells; rw [bigSep_map, bigSep_univ_prod]; rfl
  have rightsByDev : bigSep allRights (fun x => (dutyTok ET x.1 x.2.1 x.2.2 : sProp 𝕄)) = bigSep Finset.univ fun c : Dev nD => rights c := by
    unfold allRights; rw [bigSep_map, bigSep_univ_prod]
    exact bigSep_congr fun c _ => by unfold rights; rw [over6]; rfl
  iintro H
  imod (Rounds.fund ET (plan σ m) allCells allRights) $$ H with ⟨Hst, Hr, Hat, Htok⟩
  imodintro
  ihave Hst := (Entails.of_eq (byDev fun g => roundState ET (plan σ m) g 0)) $$ Hst
  ihave Hat := (Entails.of_eq (byDev fun g => atPos ET g 0 ∅ 0)) $$ Hat
  ihave Hr := (Entails.of_eq (byDev fun g => reached ET g 0)) $$ Hr
  ihave Htok := (Entails.of_eq rightsByDev) $$ Htok
  unfold given; simp only [bigSep_sep']
  isplitl [Hst]; · iexact Hst
  isplitl [Hat Hr]
  · isplitl [Hat] <;> iassumption
  iexact Htok

/-! ## Setting the cells up -/

/-- The kernel's own semaphores. -/
abbrev ownChan : Fin 3 → SemLoc sig := fun | 0 => sent | 1 => came | 2 => leave

theorem own_facts : Pipeline.OwnSemFacts cfg0.spec ownChan := by decide

abbrev ownZero (c : Dev nD) : sProp 𝕄 := Pipeline.ownSems0 (Ix := Unit) (Name := ℕ) (U := Ghost) (Lvl := ℕ) (Val := Elt F) (τ := τ) ownChan c

omit [FloatOps F] in
theorem ownZero_eq (c : Dev nD) : (ownZero (F := F) c) = iprop(semVal (at_ c sent) 0 ∗ semVal (at_ c came) 0 ∗ semVal (at_ c leave) 0) := by
  unfold ownZero; rw [Pipeline.ownSems0_eq_of_list c ownChan [0, 1, 2] (by decide) (by decide)]; rfl
omit [FloatOps F] in
/-- The gate is the one semaphore that outlives the launch. -/
theorem gateZero_eq (c : Dev nD) : (unscopedSems0 c : sProp 𝕄) = semVal (at_ c gate) 0 := by
  unfold unscopedSems0; rw [bigSep_eq_bigSepL_of_eq [gate] (by decide) (by decide)]; rfl

omit [FloatOps F] in
/-- Device `c`'s semaphores at zero and what the launch gives it become its cells' invariants. -/
theorem set_up (c : Dev nD) :
    iprop(ownZero c ∗ unscopedSems0 c ∗ given σ m c)
      ⊢ |={Set.univ}=> iprop((bigSep Finset.univ fun k => iprop(∃ κ : ℕ, cellInv ET (plan σ m) κ (cellAt (c, k))))
          ∗ (bigSep Finset.univ fun k => iprop(atPos ET (cellAt (c, k)) 0 ∅ 0 ∗ reached ET (cellAt (c, k)) 0)) ∗ rights c) := by
  have enclose : iprop((bigSep Finset.univ fun k : Fin 4 => semVal (cellAt (c, k)) 0) ∗ bigSep Finset.univ fun k : Fin 4 => roundState ET (plan σ m) (cellAt (c, k)) 0)
      ⊢ (|={Set.univ}=> bigSep Finset.univ fun k => iprop(∃ κ : ℕ, cellInv ET (plan σ m) κ (cellAt (c, k))) : sProp 𝕄) := by
    rw [← bigSep_sep']
    exact (bigSep_mono fun k _ => (Rounds.body_intro ET (plan σ m) (cellAt (c, k))).trans inv_alloc).trans (bigSep_fupd _ _)
  unfold given
  rw [ownZero_eq, gateZero_eq]
  iintro ⟨⟨HS, HC, HL⟩, HG, Hst, Hat, Htok⟩
  imod enclose $$ [HS HC HL HG Hst] with Hinv
  · isplitr [Hst]
    · rw [over4]
      isplitl [HG]; · iexact HG
      isplitl [HS]; · iexact HS
      isplitl [HC] <;> iassumption
    iexact Hst
  imodintro
  isplitl [Hinv]; · iexact Hinv
  isplitl [Hat] <;> iassumption

omit [FloatOps F] in
/-- The rights over a device's semaphores go to the devices that pay: those of duty `false` to the device sending to
    it, those of duty `true` to the device it sends to. -/
theorem deal : (bigSep Finset.univ fun c : Dev nD => (rights c : sProp 𝕄)) ⊢ bigSep Finset.univ fun c : Dev nD => dues σ c := by
  unfold rights dues
  simp only [bigSep_sep']
  rw [bigSep_univ_equiv σ (fun c : Dev nD => (dutyTok ET (at_ c gate) 0 false : sProp 𝕄)),
    bigSep_univ_equiv σ.symm (fun c : Dev nD => (dutyTok ET (at_ c gate) 0 true : sProp 𝕄)),
    bigSep_univ_equiv σ (fun c : Dev nD => (dutyTok ET (at_ c came) 0 false : sProp 𝕄)),
    bigSep_univ_equiv σ (fun c : Dev nD => (dutyTok ET (at_ c leave) 0 false : sProp 𝕄)),
    bigSep_univ_equiv σ.symm (fun c : Dev nD => (dutyTok ET (at_ c leave) 0 true : sProp 𝕄))]

omit [FloatOps F] in
/-- From every device's cells and rights to what each body starts from. -/
theorem share_out :
    (bigSep Finset.univ fun c : Dev nD => iprop((bigSep Finset.univ fun k => iprop(∃ κ : ℕ, cellInv ET (plan σ m) κ (cellAt (c, k))))
          ∗ (bigSep Finset.univ fun k => iprop(atPos ET (cellAt (c, k)) 0 ∅ 0 ∗ reached ET (cellAt (c, k)) 0)) ∗ rights c) : sProp 𝕄)
      ⊢ bigSep Finset.univ (dealt σ m) := by
  simp only [bigSep_sep']
  rw [← bigSep_univ_prod (fun ck : Dev nD × Fin 4 => iprop(∃ κ : ℕ, cellInv ET (plan σ m) κ (cellAt ck))),
    ← bigSep_univ_prod (fun ck : Dev nD × Fin 4 => (reached ET (cellAt ck) 0 : sProp 𝕄))]
  iintro ⟨HI, ⟨Hat, #HR⟩, Htok⟩
  ihave HK := (BI.bigSep_exists_pi Finset.univ (fun (ck : Dev nD × Fin 4) (κ : ℕ) => (cellInv ET (plan σ m) κ (cellAt ck) : sProp 𝕄))) $$ HI
  icases HK with ⟨%K, #HI⟩
  ihave Hdue := (deal (F := F) σ) $$ Htok
  have each : ∀ c ∈ (Finset.univ : Finset (Dev nD)), iprop(records σ m K ∗ (bigSep Finset.univ fun k : Fin 4 => (atPos ET (cellAt (c, k)) 0 ∅ 0 : sProp 𝕄)) ∗ dues σ c) ⊢ dealt σ m c := fun c _ => by
    unfold dealt places
    rw [over4]
    iintro H
    iexists K; iexact H
  iapply ((sep_mono_left (BI.bigSep_of_persistent Finset.univ (records σ m K))).trans
    ((Entails.of_eq (bigSep_sep' Finset.univ (fun _ : Dev nD => records σ m K) _).symm).trans (bigSep_mono each)))
  isplitr
  · unfold records; isplitl; · iexact HI
    iexact HR
  rw [bigSep_sep']
  isplitl [Hat]; · iexact Hat
  iexact Hdue

omit [FloatOps F] in
/-- The set-up of all devices at once. -/
theorem set_up_all : (bigSep Finset.univ fun c => iprop(ownZero c ∗ unscopedSems0 c ∗ given σ m c) : sProp 𝕄)
    ⊢ |={Set.univ}=> bigSep Finset.univ (dealt σ m) :=
  ((bigSep_mono fun c _ => set_up σ m c).trans (bigSep_fupd _ _)).trans (BI.fupd_mono (share_out σ m))

/-! ## The credits -/

/-- What all devices together owe one semaphore of device `c` on account of one kind of duty. -/
theorem owed_kind (f : Dev nD ≃ Dev nD) (s t : SemLoc sig) (n : ℕ) (c : Dev nD) :
    (∑ d : Dev nD, (tallyAt (at_ (f d) s) () n : CellTallies nD τ sig Unit) (at_ c t) ()) = if s = t then n else 0 := by
  rw [Equiv.sum_comp f (fun d : Dev nD => (tallyAt (at_ d s) () n : CellTallies nD τ sig Unit) (at_ c t) ())]
  simp only [tallyAt_apply]
  by_cases h : s = t
  · subst h
    rw [if_pos rfl, Finset.sum_eq_single c (fun d _ hd => if_neg fun h => hd (dev_of_cell h.1).symm) (fun h => absurd (Finset.mem_univ _) h)]
    exact if_pos ⟨rfl, trivial⟩
  · rw [if_neg h]
    exact Finset.sum_eq_zero fun d _ => if_neg fun h' => h (congrArg Prod.snd h'.1).symm

/-- What all devices together owe the semaphore `t` of device `c`. -/
theorem owed_total (t : SemLoc sig) (c : Dev nD) : (∑ d : Dev nD, owedAll σ d (at_ c t) ())
    = (((if leave = t then 1 else 0) + if leave = t then 1 else 0) + if came = t then credit else 0)
      + (if gate = t then 1 else 0) + if gate = t then 1 else 0 := by
  unfold owedAll owedGate owedCopy owedLeave
  simp only [Pi.add_apply, Finsupp.add_apply, Finset.sum_add_distrib]
  rw [owed_kind σ.symm, owed_kind σ, owed_kind σ, owed_kind σ.symm, owed_kind σ]

theorem credit_of (t : SemLoc sig) (n : ℕ) (h : ∀ c, (∑ d : Dev nD, owedAll σ d (at_ c t) ()) = n) (c : Dev nD) :
    tallyOn (at_ c t) (launchCredit (Pipeline.owing (owedAll σ)) 0 (at_ c t)) = (tallyAt (at_ c t) () n : CellTallies nD τ sig Unit) := by
  unfold tallyAt; refine congrArg _ (Finsupp.ext fun u => ?_); cases u
  rw [Pipeline.launchCredit_owing, Finsupp.single_eq_same, h]

theorem total_gate (c : Dev nD) : (∑ d : Dev nD, owedAll σ d (at_ c gate) ()) = 2 := by
  rw [owed_total, if_neg (by decide), if_neg (by decide), if_pos rfl]
theorem total_came (c : Dev nD) : (∑ d : Dev nD, owedAll σ d (at_ c came) ()) = credit := by
  rw [owed_total, if_neg (by decide), if_pos rfl, if_neg (by decide), Nat.zero_add]; rfl
theorem total_leave (c : Dev nD) : (∑ d : Dev nD, owedAll σ d (at_ c leave) ()) = 2 := by
  rw [owed_total, if_pos rfl, if_neg (by decide), if_neg (by decide)]

omit [FloatOps F] in
/-- The launch's credit covers what device `c` waits for from the others. -/
theorem credits_intro (c : Dev nD) : (Pipeline.launchCred (owedAll σ) c : sProp 𝕄) ⊢ credits c := by
  unfold Pipeline.launchCred credits
  rw [bigSep_univ_at _ gate, credit_of σ gate 2 (total_gate σ) c]
  refine sep_mono_right ?_
  rw [BI.bigSep_erase (i := came) (Finset.mem_erase.mpr ⟨by decide, Finset.mem_univ _⟩), credit_of σ came credit (total_came σ) c]
  refine sep_mono_right ?_
  rw [← credit_of σ leave 2 (total_leave σ) c]
  exact bigSep_elim (Finset.mem_erase.mpr ⟨by decide, Finset.mem_erase.mpr ⟨by decide, Finset.mem_univ _⟩⟩)

/-! ## The launch's side conditions -/

omit [FloatOps F] in
theorem opening_intro (c : Dev nD) :
    iprop(Pipeline.unscopedRestP Pipeline.Prefetch.none cfg0.spec c (fun b => m ((c : Thread nD τ).loc b)) ∗ levAts units1 rank
        ∗ Pipeline.launchCred (owedAll σ) c ∗ prngReg c (ρ c) ∗ dealt σ m c)
      ⊢ |={Set.univ}=> iprop(opening σ m c ∗ emp) := by
  iintro ⟨-, Hlev, Hcr, -, Hd⟩
  ihave Hc := (credits_intro (F := F) σ c) $$ Hcr
  imodintro
  unfold opening
  isplitl
  · isplitl [Hd]; · iexact Hd
    isplitl [Hc] <;> iassumption
  iempintro

theorem enter (c : Dev nD) :
    iprop(opening σ m c ∗ Pipeline.prefHeld Pipeline.Prefetch.none c (fun _ => fullShare.right) (fun k => k.elim0) ∗ Pipeline.scopedRest cfg0.spec c)
      ⊢ (data σ m 0 c).Φ 0 := by
  rw [show (data σ m 0 c).Φ 0 = opening σ m c from rfl]
  iintro ⟨H, -⟩; iexact H

theorem exit (c : Dev nD) :
    (data σ m 0 c).Φ (Fin.last cfg0.N) ⊢ iprop(unscopedSems0 c ∗ ownZero (F := F) c ∗ Pipeline.scopedRest cfg0.spec c) := by
  rw [show (data σ m 0 c).Φ (Fin.last cfg0.N) = closing (F := F) c from rfl, scopedRest0_eq, ownZero_eq, gateZero_eq]
  unfold closing
  iintro ⟨HG, HS, HC, HL⟩
  isplitl [HG]; · iexact HG
  isplitl
  · isplitl [HS]; · iexact HS
    isplitl [HC] <;> iassumption
  iempintro

theorem staging_waits (c : Dev nD) : (levAts units1 rank : sProp 𝕄) ⊢ Pipeline.cellsWaits cfgs (data σ m) () 0 c :=
  Pipeline.cellsWaits_intro cfgs (data σ m) () 0 c fun w s t => by
    have hl : level (.dma ((cfg0.win w).sem s)) = 0 := by fin_cases w <;> fin_cases s <;> decide
    refine may_wait c _ ?_
    rw [show level _ = 0 from hl]
    rcases t with ⟨_ | _, ht⟩
    · exact above_owedAll σ c
    · exact above_zero 0

theorem whole_shares (c : Dev nD) (w : Fin cfg0.W) : (data σ m 0 c).share w = fullShare := by unfold Dat.share; split <;> rfl

/-! ## The run -/

/-- The arrays of the three windows after the run. -/
def final (c : Dev nD) (w : Fin cfg0.W) : Buf (Elt F) ((cfg0.win w).arr.view.loc (c : Thread nD τ)) := (data σ m 0 c).arrAt w cfg0.N

variable {σ m} in
set_option maxRecDepth 8000 in
/-- When every device's table spells out the routing `σ`, every weakly fair execution of `main` on the four devices
    terminates, with each window's array at its final contents and every semaphore at zero. -/
theorem run (h : Routed σ m) : θ_run defs (onTc (τ := τ) (main (F := F))) ⟨m, fun _ => 0, ρ⟩
    (fun r => (∀ c : Dev nD, ∀ w : Fin cfg0.W, r.2.mem ((cfg0.win w).arr.view.loc (c : Thread nD τ)) = final σ m c w) ∧ r.2.sem = fun _ => 0) :=
  Pipeline.θ_run_region_owing_glob_pf (fun p => (cfgs p).toPCfg) (fun p => (cfgs p).toPCfg_adm) (data σ m) () cellOf_inj (0 : Fin 1)
    winFacts0.to₀ own_facts (Pipeline.PreFacts.none _) ES defs₀ none₀ m ρ main
    (hmain := fun _ => rfl)
    (hbody := body_meets h) (hne := fun w => by fin_cases w <;> exact Nat.succ_pos _) (harr := arr_whole0) (hstage := stage_whole0)
    (hshare := whole_shares σ m) (hdistinct := winFacts0.arr_inj)
    (O₀ := owedAll σ) (howed₀ := fun _ => rfl) (howedN := fun _ => rfl)
    (L := units1) (lv := rank) (hL := units1_ne) (hwaits := staging_waits σ m)
    (G := given σ m) (G' := dealt σ m) (u₀ := seed)
    (hu₀ := by
      unfold seed
      iintro Hu
      ihave H := (ownU_pair _ _) $$ Hu
      icases H with ⟨HP, HX⟩
      imod (seed_gives σ m) $$ HX with HG
      imodintro
      isplitl [HP] <;> iassumption)
    (hglob := set_up_all σ m)
    (hA := fun _ _ => rfl) (hpf := fun _ k => k.elim0)
    (X := opening σ m) (Y := fun c => unscopedSems0 c) (Z := fun _ => iprop(emp))
    (hX := opening_intro σ m ρ) (hin := enter σ m) (hout := exit σ m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Route

end
-- ==== Proof.Values.lean ====
/-
What the run of Run.lean leaves in memory, for any routing: the arguments as they were, and in every device's result
the block of the device that sends to it (`outcome`).
-/
module

public import proofs.«01_k».proof.Proof.Run

@[expose] public section

noncomputable section

namespace Cert.Route

open Cert.KernelIdeal Cert.KernelIdeal.Gen
open Idealize.ShloMosaic Idealize.ShloMosaic.TcCoe
open Idealize.SL.Sem

variable {F : FTy → Type} [FloatOps F]

variable (σ : Dev nD ≃ Dev nD) (m : (ℓ : Loc nD τ sig) → Buf (Elt F) ℓ) (ρ : Dev nD → PrngReg)

/-- The table ends as it was, -/
theorem table_kept (c : Dev nD) : final σ m c (0 : Fin 3) = m ((c : Thread nD τ).loc main_arg1) :=
  (data σ m 0 c).arrAt_in (0 : Fin 3) rfl _

/-- and so does `x`. -/
theorem x_kept (c : Dev nD) : final σ m c (1 : Fin 3) = m ((c : Thread nD τ).loc main_arg0) :=
  (data σ m 0 c).arrAt_in (1 : Fin 3) rfl _

/-- The one block of `x` is all of it: the staged block of a device is its argument. -/
theorem blockOf_eq (c : Dev nD) : blockOf m c = m ((c : Thread nD τ).loc main_arg0) :=
  Memref.read_access_unit_zero (Elt F) main_arg0 (funext fun a => by fin_cases a <;> decide)
    (fun a => by fin_cases a <;> decide) _

/-- A device's result is the argument of the device that sends to it. -/
theorem result_received (c : Dev nD) : final σ m c (2 : Fin 3) = m (((σ.symm c : Dev nD) : Thread nD τ).loc main_arg0) := by
  have whole : (win0_2.blk (0 : Fin 1)).view.read (Elt F) (final σ m c (2 : Fin 3)) = final σ m c (2 : Fin 3) :=
    Memref.read_access_unit_zero (Elt F) main_v1 (funext fun a => by fin_cases a <;> decide)
      (fun a => by fin_cases a <;> decide) _
  have written : (win0_2.blk (0 : Fin 1)).view.read (Elt F) (final σ m c (2 : Fin 3)) = received σ m c := by
    have step := (data σ m 0 c).arrAt_succ (2 : Fin 3) (0 : Fin 1)
    rw [show (cfg0.win (2 : Fin 3)).flush (0 : Fin 1) = true from by decide, if_pos rfl] at step
    exact (congrArg _ step).trans (View.read_write_univ _ _)
  exact whole.symm.trans (written.trans (blockOf_eq m _))

variable {σ m} in
/-- When every device's table spells out the routing `σ`, every weakly fair execution terminates; every device's result
    is then the block of the device that `σ` sends to it, both arguments are as they were, and every semaphore is at zero. -/
theorem outcome (h : Routed σ m) : θ_run defs (onTc (τ := τ) (main (F := F))) ⟨m, fun _ => 0, ρ⟩ (fun r =>
    (∀ c : Dev nD, r.2.mem ((c.tc : Thread nD τ).loc main_v1) = m (((σ.symm c).tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ hr => ⟨fun c => ⟨(hr.1 c (2 : Fin 3)).trans (result_received σ m c),
    (hr.1 c (1 : Fin 3)).trans (x_kept σ m c), (hr.1 c (0 : Fin 3)).trans (table_kept σ m c)⟩, hr.2⟩) (run ρ h)

end Cert.Route

end
-- ==== Proof.Lookup.lean ====
/-
The reference's value: `x[argsort(pi)]` for a table `pi` that spells out a routing `σ` is, block by block, the block of
`x` that `σ` sends there (`block_lookup`).
-/
module

public import proofs.«01_k».proof.Proof.Body
public import proofs.«01_k».proof.Proof.Gen.ReferenceIdeal.Run

@[expose] public section

noncomputable section

namespace Cert.Route

open Cert.ReferenceIdeal Cert.ReferenceIdeal.Gen
open Idealize.ShloMosaic Idealize.ShloMosaic.TcCoe
open Idealize.SL.Sem

variable {F : FTy → Type} [FloatOps F]

/-! ## Sorting the table -/

/-- Sorting four positions by the distinct numbers `f` below four puts position `i` at place `f i`. -/
theorem sorted_place : ∀ f : Fin 4 → Fin 4, Function.Injective f → ∀ i : Fin 4,
    sortedFrom (fun k k' => decide (f k < f k')) (f i) = i := by
  decide +kernel

/-- Comparing two numbers below four as signed words. -/
theorem words_slt : ∀ a b : Fin 4,
    (IntOp.cmpi .slt (BitVec.ofNat 32 a.val) (BitVec.ofNat 32 b.val) == 1#1) = decide (a < b) := by decide

/-- The places of a table, in sorted order. -/
abbrev argsort (pi : IVec S4 32) : IVec S4 32 := (Host.sort2 S4 0 comparator_i32_i32_d0 pi (iotaInDim S4 32 0)).2

/-- Place `c` of the sorted table holds the number of the device that sends to `c`. -/
theorem argsort_at (σ : Fin 4 ≃ Fin 4) (pi : IVec S4 32) (hpi : ∀ k : Fin 4, pi (word k) = BitVec.ofNat 32 (σ k).val) (c : Fin 4) :
    argsort pi (word c) = BitVec.ofNat 32 (σ.symm c).val := by
  have along : ∀ k : Fin 4, (word c : S4.Idx).along (0 : Fin 1) k = word k := fun k => by
    funext a; fin_cases a; rfl
  have before : (fun k k' : Fin 4 => comparator_i32_i32_d0
        (pi ((word c : S4.Idx).along (0 : Fin 1) k), iotaInDim S4 32 0 ((word c : S4.Idx).along (0 : Fin 1) k))
        (pi ((word c : S4.Idx).along (0 : Fin 1) k'), iotaInDim S4 32 0 ((word c : S4.Idx).along (0 : Fin 1) k')) == 1#1)
      = fun k k' => decide (σ k < σ k') := by
    funext k k'
    rw [along, along]
    show (IntOp.cmpi .slt (pi (word k)) (pi (word k')) == 1#1) = _
    rw [hpi, hpi, words_slt]
  have place : sortedFrom (fun k k' : Fin 4 => decide (σ k < σ k')) c = σ.symm c := by
    have := sorted_place σ σ.injective (σ.symm c)
    rwa [Equiv.apply_symm_apply] at this
  have e : argsort pi (word c) = BitVec.ofNat 32 (sortedFrom (n := 4) (fun k k' : Fin 4 => comparator_i32_i32_d0
        (pi ((word c : S4.Idx).along (0 : Fin 1) k), iotaInDim S4 32 0 ((word c : S4.Idx).along (0 : Fin 1) k))
        (pi ((word c : S4.Idx).along (0 : Fin 1) k'), iotaInDim S4 32 0 ((word c : S4.Idx).along (0 : Fin 1) k')) == 1#1) c).val := rfl
  rw [e, before, place]

/-! ## Looking up the rows -/

/-- The index column that the reference builds: a negative place counts from the end. -/
abbrev column (s : IVec S4 32) : IVec S4x1 32 :=
  broadcastInDim S4x1 ![0] bcast_S4_S4x1_0 (select (cmpi .slt s (broadcastInDim S4 ![] bcast_S_S4 (constantI S_ 32 0#32)))
    (addi s (broadcastInDim S4 ![] bcast_S_S4 (constantI S_ 32 4#32))) s)

/-- A place below four stands in the column as it is. -/
theorem column_at (s : IVec S4 32) (i : S4x1.Idx) (b : Fin 4) (c : Fin 4) (hc : (i 0).val = c.val) (hs : s (word c) = BitVec.ofNat 32 b.val) :
    column s i = BitVec.ofNat 32 b.val := by
  obtain ⟨w, hw, e⟩ : ∃ w : S4.Idx, w = word c ∧ column s i
      = (if IntOp.cmpi .slt (s w) 0#32 = 1#1 then IntOp.addi (s w) 4#32 else s w) :=
    ⟨_, funext fun a => by fin_cases a; exact Fin.ext hc, rfl⟩
  rw [e, hw, hs]
  clear hs e
  revert b; decide

abbrev dims := gather_S4x2048x1024_S4x1_S4x2048x1024_12_0_n_n_0_1_120481024

/-- Looking up the rows of `x` by a column whose entry in row `i 0` is `b` reads row `b`. -/
theorem lookup_at {α : Type} (x : S4x2048x1024.Idx → α) (s : IVec S4x1 32) (i j : S4x2048x1024.Idx) (b : Fin 4)
    (hs : ∀ k : S4x1.Idx, (k 0).val = (i 0).val → s k = BitVec.ofNat 32 b.val)
    (h0 : (j 0).val = b.val) (h1 : (j 1).val = (i 1).val) (h2 : (j 2).val = (i 2).val) :
    Host.gather dims x s i = x j := by
  unfold Host.gather
  refine congrArg x (funext fun a => Fin.ext ?_)
  show dims.start i s a + dims.batchCoord i a + dims.offCoord i a = (j a).val
  rw [GatherDims.batchCoord_eq_zero _ _ _ List.not_mem_nil, Nat.add_zero]
  have row (h) : s (dims.siIdx i ⟨0, h⟩) = BitVec.ofNat 32 b.val := hs _ rfl
  match a with
  | ⟨0, _⟩ =>
    rw [GatherDims.offCoord_eq_zero _ _ _ (fun h => ((GatherDims.mem_sKept _ _).mp h).1 (List.mem_singleton.mpr rfl)), Nat.add_zero]
    refine Eq.trans (dif_pos (show (0 : Fin 3) ∈ dims.startIndexMap from List.mem_singleton.mpr rfl)) (Eq.trans ?_ h0.symm)
    refine (congrArg (fun v : BitVec 32 => min v.toInt.toNat (4 - 1)) (row _)).trans ?_
    clear row hs h0
    revert b; decide
  | ⟨1, _⟩ => exact (Nat.zero_add _).trans h1.symm
  | ⟨2, _⟩ => exact (Nat.zero_add _).trans h2.symm

/-- The reference's value. -/
abbrev lookup {α : Type} (x : S4x2048x1024.Idx → α) (pi : IVec S4 32) : S4x2048x1024.Idx → α :=
  Host.gather dims x (column (argsort pi))

/-- Block `c` of the reference's value is block `σ.symm c` of `x`. -/
theorem block_lookup {α : Type} (σ : Fin 4 ≃ Fin 4) (x : S4x2048x1024.Idx → α) (pi : IVec S4 32)
    (hpi : ∀ k : Fin 4, pi (word k) = BitVec.ofNat 32 (σ k).val) (c : Fin 4) :
    Layout.block ⟨3, ![1, 2048, 1024]⟩ ⟨3, ![4, 2048, 1024]⟩ 0 4 c (lookup x pi)
      = Layout.block ⟨3, ![1, 2048, 1024]⟩ ⟨3, ![4, 2048, 1024]⟩ 0 4 (σ.symm c) x := by
  funext i
  have hi : (i 0).val = 0 := by have : (i 0).val < 1 := (i 0).isLt; omega
  refine lookup_at x _ _ _ (σ.symm c) (fun k hk => column_at _ k _ c (hk.trans ?_) (argsort_at σ pi hpi c)) ?_ rfl rfl
  · show c.val * 1 + (i 0).val = c.val
    omega
  · show (σ.symm c).val * 1 + (i 0).val = (σ.symm c).val
    omega

/-! ## The reference's run -/

/-- The reference terminates on every memory, with the lookup in its result, its arguments as they were and every
    semaphore at zero. -/
theorem reference_run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_v7)
          = lookup (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun r h => ⟨h, sem_eq_zero_of_no_sems (by decide) r.2⟩) (Value.run m ρ)

end Cert.Route

end
-- ==== Proof.Tables.lean ====
/-
From a precondition to its routing. Each precondition of the claims says that a device's table is one written-out
table `lit`. A written-out table of four distinct device numbers (`Names`) is a routing (`Names.route`), so on devices
that all hold it the run of Values.lean applies: `frame` and `frame_kernel` are the frames under such a precondition,
`value` the comparison with the reference.
-/
module

public import proofs.«01_k».proof.Defs
public import proofs.«01_k».proof.Proof.Gen.Kernel
public import proofs.«01_k».proof.Proof.Values
public import proofs.«01_k».proof.Proof.Lookup

@[expose] public section

noncomputable section

namespace Cert.Route

open Cert.KernelIdeal Cert.KernelIdeal.Gen
open Idealize.ShloMosaic Idealize.ShloMosaic.TcCoe
open Idealize.SL.Sem

variable {F : FTy → Type} [FloatOps F]

/-! ## Written-out tables -/

/-- A written-out table names the four devices, each once. -/
def Names (lit : Fin 4 → BitVec 32) : Prop := (∀ k, (lit k).toNat < 4) ∧ ∀ k k', lit k = lit k' → k = k'

instance (lit : Fin 4 → BitVec 32) : Decidable (Names lit) := by unfold Names; infer_instance

variable {lit : Fin 4 → BitVec 32}

/-- The routing that a written-out table spells out. -/
def Names.route (ok : Names lit) : Dev nD ≃ Dev nD :=
  Equiv.ofBijective (fun k : Fin 4 => (⟨(lit k).toNat, ok.1 k⟩ : Fin 4)) (Finite.injective_iff_bijective.mp fun k k' h =>
    ok.2 k k' (BitVec.eq_of_toNat_eq (Fin.mk.inj h)))

theorem Names.route_word (ok : Names lit) (k : Fin 4) : lit k = BitVec.ofNat 32 (ok.route k).val :=
  BitVec.eq_of_toNat_eq (by
    have := ok.1 k
    show _ = ((lit k).toNat % 2 ^ 32)
    omega)

/-- What a precondition says of a table: compared word by word with the written-out one, it is the same everywhere. -/
abbrev Holds (lit : Fin 4 → BitVec 32) (pi : IVec S4 32) : Prop := cmpi .eq pi (fun i => lit (S4.rowMajor i)) = fun _ => 1#1

/-- Word `k` of a table stands at place `k`. -/
theorem place : ∀ k : Fin 4, S4.rowMajor (word k) = k := fun k => by fin_cases k <;> rfl

/-- A table under a precondition has the written-out words. -/
theorem Holds.word {pi : IVec S4 32} (h : Holds lit pi) (k : Fin 4) : pi (word k) = lit k := by
  have e : IntOp.cmpi .eq (pi (Route.word k)) (lit (S4.rowMajor (Route.word k))) = 1#1 := congrFun h _
  have hk : S4.rowMajor (Route.word k) = k := place k
  rw [hk] at e
  by_contra hne
  have : IntOp.cmpi .eq (pi (Route.word k)) (lit k) = 0#1 := by
    show BitVec.ofBool (pi (Route.word k) == lit k) = 0#1
    rw [beq_false_of_ne hne]; rfl
  rw [this] at e
  exact absurd e (by decide)

/-- Devices that all hold the written-out table are routed by it. -/
theorem routed (ok : Names lit) {m : (ℓ : Loc nD τ sig) → Buf (Elt F) ℓ} (h : ∀ c : Dev nD, Holds lit (m ((c.tc : Thread nD τ).loc main_arg1))) :
    Routed ok.route m := fun c k => ((h c).word k).trans (ok.route_word k)

/-! ## The claims for a written-out table -/

/-- On devices that all hold the written-out table, `KernelIdeal` at any floats terminates, its arguments end as they
    were and every semaphore at zero. -/
theorem frame (ok : Names lit) (m : (ℓ : Loc nD τ sig) → Buf (Elt F) ℓ) (g : Dev nD → PrngReg)
    (h : ∀ c : Dev nD, Holds lit (m ((c.tc : Thread nD τ).loc main_arg1))) :
    θ_run defs (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ hr => ⟨fun c => (hr.1 c).2, hr.2⟩) (outcome g (routed ok h))

/-- The bodies of `Kernel` and of `KernelIdeal` are the same, -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- and so are the pipelines that run them. -/
theorem defs_eq : Cert.Kernel.defs (F := F) = Cert.KernelIdeal.defs (F := F) :=
  congrArg (Pipeline.defs Cert.KernelIdeal.pcfgs) bodies_eq

/-- The same of `Kernel`, whose text is `KernelIdeal`'s, at the bit patterns. -/
theorem frame_kernel (ok : Names lit) (m : (ℓ : Loc Cert.Kernel.nD Cert.Kernel.τ Cert.Kernel.sig) → Buf (Elt Bits) ℓ)
    (g : Dev Cert.Kernel.nD → PrngReg)
    (h : ∀ c : Dev Cert.Kernel.nD, Holds lit (m ((c.tc : Thread Cert.Kernel.nD Cert.Kernel.τ).loc Cert.Kernel.main_arg1))) :
    θ_run Cert.Kernel.defs (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)
        ∧ r.2.mem ((c.tc : Thread Cert.Kernel.nD Cert.Kernel.τ).loc Cert.Kernel.main_arg1)
          = m ((c.tc : Thread Cert.Kernel.nD Cert.Kernel.τ).loc Cert.Kernel.main_arg1))
      ∧ r.2.sem = fun _ => 0) :=
  defs_eq (F := Bits) ▸ frame (F := Bits) ok m g h

/-- The reference's frame, which needs no precondition. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
      ∧ r.2.sem = fun _ => 0) :=
  (θ_run _ _ _).mono (fun _ hr => ⟨fun c => (hr.1 c).2, hr.2⟩) (reference_run m g)

/-- Argument and result array of the reference's one device. -/
abbrev refLoc (b : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc b

/-- On devices that all hold the written-out table, and whose blocks of `x` together are the reference's, every device
    ends with its block of the reference's result; both programs terminate and leave their arguments as they were. -/
theorem value (ok : Names lit) (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (h : ∀ c : Dev nD, Holds lit (m ((c.tc : Thread nD τ).loc main_arg1)))
    (parts : ∀ c : Dev nD,
      m ((c.tc : Thread nD τ).loc main_arg0)
        = Layout.block ⟨3, ![1, 2048, 1024]⟩ ⟨3, ![4, 2048, 1024]⟩ 0 4 c (m' (refLoc Cert.ReferenceIdeal.main_arg0))
      ∧ m ((c.tc : Thread nD τ).loc main_arg1) = m' (refLoc Cert.ReferenceIdeal.main_arg1)) :
    ∃ v : Buf (Elt Ideal) (refLoc Cert.ReferenceIdeal.main_v7),
      θ_run (defs (F := Ideal)) (onTc (τ := τ) (main (F := Ideal))) ⟨m, fun _ => 0, g⟩ (fun r => ∀ c : Dev nD,
        r.2.mem ((c.tc : Thread nD τ).loc main_v1) = Layout.block ⟨3, ![1, 2048, 1024]⟩ ⟨3, ![4, 2048, 1024]⟩ 0 4 c v
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal)))
        ⟨m', fun _ => 0, g'⟩ (fun r =>
          r.2.mem (refLoc Cert.ReferenceIdeal.main_v7) = v
          ∧ r.2.mem (refLoc Cert.ReferenceIdeal.main_arg0) = m' (refLoc Cert.ReferenceIdeal.main_arg0)
          ∧ r.2.mem (refLoc Cert.ReferenceIdeal.main_arg1) = m' (refLoc Cert.ReferenceIdeal.main_arg1)) := by
  have spelled : ∀ k : Fin 4, (m' (refLoc Cert.ReferenceIdeal.main_arg1) : IVec S4 32) (word k) = BitVec.ofNat 32 (ok.route k).val :=
    fun k => (congrFun (parts 0).2 (word k)).symm.trans (routed ok h 0 k)
  refine ⟨lookup (m' (refLoc Cert.ReferenceIdeal.main_arg0)) (m' (refLoc Cert.ReferenceIdeal.main_arg1)), ?_, ?_⟩
  · refine (θ_run defs _ _).mono (fun _ hr c => ⟨(hr.1 c).1.trans ?_, (hr.1 c).2⟩) (outcome g (routed ok h))
    exact (parts _).1.trans (block_lookup ok.route _ _ spelled c).symm
  · exact (θ_run _ _ _).mono (fun _ hr => hr.1 0) (reference_run m' g')

end Cert.Route

end
-- ==== Proof.lean ====
/-
The proof of every claim of the statement. Protocol.lean states what the devices hand each other over their semaphores,
Body.lean runs one device's body under it, Run.lean and Values.lean the four devices together, Lookup.lean reads the
reference, and Tables.lean puts the two side by side for a written-out table. Here the claims are only collected.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tables
public import Idealize.ShloMosaic.Adequacy
public import Idealize.ShloMosaic.Init

@[expose] public section

noncomputable section

namespace Cert.Proof

open Idealize.ShloMosaic Idealize.SL.Sem Cert.Kernel

/-- The claims: the frames of `Kernel` and of `KernelIdeal` and the comparison with `ReferenceIdeal`, each under each of
    the twenty-four preconditions, and the reference's frame; that `KernelIdeal` preserves `Kernel` has nothing to show,
    since no operation was replaced. Each claim is its theorem of Tables.lean at the table its precondition writes out. -/
theorem claim : Cert.Claim := by
  refine ⟨Cert.Kernel.Gen.facts, Cert.KernelIdeal.Gen.facts, Cert.ReferenceIdeal.Gen.facts,
    {}, {}, {}, {}, {}, {}, {}, {}, {}, {}, {}, {}, {}, {}, {}, {}, {}, {}, {}, {}, {}, {}, {}, {},
    {}, {}, {}, {}, {}, {}, {}, {}, {}, {}, {}, {}, {}, {}, {}, {}, {}, {}, {}, {}, {}, {}, {}, {}, ?_⟩
  and_intros
  all_goals first
    | exact trivial
    | exact fun m g h => Route.frame_kernel (by decide) m g h
    | exact fun m g h => Route.frame (by decide) m g h
    | exact fun m g _ => Route.frame_reference m g
    | exact fun m g m' g' h parts => Route.value (by decide) m g m' g' h parts

end Cert.Proof

end
